-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = Layout.block ⟨3, ![2, 128, 512]⟩ ⟨3, ![8, 128, 512]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 512]⟩ ⟨2, ![512, 2048]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 512]⟩ ⟨2, ![2048, 512]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![512, 512]⟩ ⟨2, ![512, 2048]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 512]⟩ ⟨2, ![512, 2048]⟩ 1 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 128, 512]⟩ ⟨3, ![8, 128, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v27) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2x128x512 : Shape := ⟨3, ![2, 128, 512]⟩
abbrev S512x512 : Shape := ⟨2, ![512, 512]⟩
abbrev S_ : Shape := ⟨0, ![]⟩

class Facts : Prop where
  bcast_S_S2x128x512 : S_.BroadcastsInDim S2x128x512 (![] : Fin 0 → Fin S2x128x512.rank)
  bcast_S_S512x512 : S_.BroadcastsInDim S512x512 (![] : Fin 0 → Fin S512x512.rank)

variable [Facts]

def fn {F : FTy → Type} [FloatOps F] (main_arg0 : FVec F S2x128x512 .bf16) (main_arg1 : FVec F S512x512 .bf16) (main_arg2 : FVec F S512x512 .bf16) (main_arg3 : FVec F S512x512 .bf16) (main_arg4 : FVec F S512x512 .bf16) : IVec S2x128x512 1 × IVec S512x512 1 × IVec S512x512 1 :=
  let main_v0 : FVec F S2x128x512 .bf16 := subf main_arg0 main_arg0
  let main_cst : FVec F S_ .bf16 := constant S_ .bf16 0x0000#16
  let main_v1 : FVec F S2x128x512 .bf16 := broadcastInDim S2x128x512 ![] bcast_S_S2x128x512 main_cst
  let main_v2 : IVec S2x128x512 1 := cmpf .oeq main_v0 main_v1
  let main_v3 : FVec F S512x512 .bf16 := subf main_arg1 main_arg1
  let main_cst_0 : FVec F S_ .bf16 := constant S_ .bf16 0x0000#16
  let main_v4 : FVec F S512x512 .bf16 := broadcastInDim S512x512 ![] bcast_S_S512x512 main_cst_0
  let main_v5 : IVec S512x512 1 := cmpf .oeq main_v3 main_v4
  let main_v6 : FVec F S512x512 .bf16 := subf main_arg3 main_arg3
  let main_cst_1 : FVec F S_ .bf16 := constant S_ .bf16 0x0000#16
  let main_v7 : FVec F S512x512 .bf16 := broadcastInDim S512x512 ![] bcast_S_S512x512 main_cst_1
  let main_v8 : IVec S512x512 1 := cmpf .oeq main_v6 main_v7
  (main_v2, main_v5, main_v8)
-- ==== Pre_finite_scores_ReferenceIdeal.lean ====
abbrev S8x128x512 : Shape := ⟨3, ![8, 128, 512]⟩
abbrev S512x2048 : Shape := ⟨2, ![512, 2048]⟩
abbrev S2048x512 : Shape := ⟨2, ![2048, 512]⟩
abbrev S_ : Shape := ⟨0, ![]⟩

class Facts : Prop where
  bcast_S_S8x128x512 : S_.BroadcastsInDim S8x128x512 (![] : Fin 0 → Fin S8x128x512.rank)
  bcast_S_S512x2048 : S_.BroadcastsInDim S512x2048 (![] : Fin 0 → Fin S512x2048.rank)

variable [Facts]

def fn {F : FTy → Type} [FloatOps F] (main_arg0 : FVec F S8x128x512 .bf16) (main_arg1 : FVec F S512x2048 .bf16) (main_arg2 : FVec F S2048x512 .bf16) (main_arg3 : FVec F S512x2048 .bf16) (main_arg4 : FVec F S512x2048 .bf16) : IVec S8x128x512 1 × IVec S512x2048 1 × IVec S512x2048 1 :=
  let main_v0 : FVec F S8x128x512 .bf16 := subf main_arg0 main_arg0
  let main_cst : FVec F S_ .bf16 := constant S_ .bf16 0x0000#16
  let main_v1 : FVec F S8x128x512 .bf16 := broadcastInDim S8x128x512 ![] bcast_S_S8x128x512 main_cst
  let main_v2 : IVec S8x128x512 1 := cmpf .oeq main_v0 main_v1
  let main_v3 : FVec F S512x2048 .bf16 := subf main_arg1 main_arg1
  let main_cst_0 : FVec F S_ .bf16 := constant S_ .bf16 0x0000#16
  let main_v4 : FVec F S512x2048 .bf16 := broadcastInDim S512x2048 ![] bcast_S_S512x2048 main_cst_0
  let main_v5 : IVec S512x2048 1 := cmpf .oeq main_v3 main_v4
  let main_v6 : FVec F S512x2048 .bf16 := subf main_arg3 main_arg3
  let main_cst_1 : FVec F S_ .bf16 := constant S_ .bf16 0x0000#16
  let main_v7 : FVec F S512x2048 .bf16 := broadcastInDim S512x2048 ![] bcast_S_S512x2048 main_cst_1
  let main_v8 : IVec S512x2048 1 := cmpf .oeq main_v6 main_v7
  (main_v2, main_v5, main_v8)
-- ==== Kernel.lean ====
abbrev S2x128x512 : Shape := ⟨3, ![2, 128, 512]⟩
abbrev S512x512 : Shape := ⟨2, ![512, 512]⟩
abbrev S4x2x128x512 : Shape := ⟨4, ![4, 2, 128, 512]⟩
abbrev S3x2x128x512 : Shape := ⟨4, ![3, 2, 128, 512]⟩
abbrev S512x1536 : Shape := ⟨2, ![512, 1536]⟩
abbrev S16x128x64 : Shape := ⟨3, ![16, 128, 64]⟩
abbrev S256x512 : Shape := ⟨2, ![256, 512]⟩
abbrev S3 : Shape := ⟨1, ![3]⟩
abbrev S4 : Shape := ⟨1, ![4]⟩
abbrev S_ : Shape := ⟨0, ![]⟩
abbrev S1x2x128x512 : Shape := ⟨4, ![1, 2, 128, 512]⟩
abbrev S1 : Shape := ⟨1, ![1]⟩
abbrev S256x1536 : Shape := ⟨2, ![256, 1536]⟩
abbrev S128x64 : Shape := ⟨2, ![128, 64]⟩
abbrev S1x128x64 : Shape := ⟨3, ![1, 128, 64]⟩
abbrev S16x128x128 : Shape := ⟨3, ![16, 128, 128]⟩
abbrev S16x128 : Shape := ⟨2, ![16, 128]⟩
abbrev S16x128x1 : Shape := ⟨3, ![16, 128, 1]⟩
abbrev S128x512 : Shape := ⟨2, ![128, 512]⟩
abbrev S1x1x128x512 : Shape := ⟨4, ![1, 1, 128, 512]⟩

abbrev nBuf : Space → Nat
  | .hbm => 6
  | .vmem => 14
  | .smem => 0
  | _ => 0

abbrev bufTy : (tb : Table) → Fin (tcTables nBuf tb) → BufTy
  | .hbm, ⟨0, _⟩ => ⟨S2x128x512, .bf16⟩
  | .hbm, ⟨1, _⟩ => ⟨S512x512, .bf16⟩
  | .hbm, ⟨2, _⟩ => ⟨S512x512, .bf16⟩
  | .hbm, ⟨3, _⟩ => ⟨S512x512, .bf16⟩
  | .hbm, ⟨4, _⟩ => ⟨S512x512, .bf16⟩
  | .hbm, ⟨5, _⟩ => ⟨S2x128x512, .f32⟩
  | .local _ .vmem, ⟨0, _⟩ => ⟨S2x128x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S2x128x512, .f32⟩
  | .local _ .vmem, ⟨6, _⟩ => ⟨S4x2x128x512, .bf16⟩
  | .local _ .vmem, ⟨7, _⟩ => ⟨S4x2x128x512, .bf16⟩
  | .local _ .vmem, ⟨8, _⟩ => ⟨S3x2x128x512, .bf16⟩
  | .local _ .vmem, ⟨9, _⟩ => ⟨S512x1536, .bf16⟩
  | .local _ .vmem, ⟨10, _⟩ => ⟨S16x128x64, .bf16⟩
  | .local _ .vmem, ⟨11, _⟩ => ⟨S16x128x64, .bf16⟩
  | .local _ .vmem, ⟨12, _⟩ => ⟨S16x128x64, .bf16⟩
  | .local _ .vmem, ⟨13, _⟩ => ⟨S256x512, .bf16⟩
  | _, _ => ⟨S2x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 1 → Bool
  | ⟨0, _⟩ => false
  | _ => false

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  (ofTc nBuf bufTy 1 21 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_scratch7 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_22 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_21 : BitVec 32 := 1#32
  let v38 : BitVec 32 := Scalar.muli v14 c1_i32_21
  let v39 : BitVec 32 := Scalar.addi c0_i32_22 v38
  v39.toNat
def k0_dev2 (d0 : Dev nD) : Nat :=
  let c0_i32_25 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_24 : BitVec 32 := 1#32
  let v40 : BitVec 32 := Scalar.muli v25 c1_i32_24
  let v41 : BitVec 32 := Scalar.addi c0_i32_25 v40
  v41.toNat
def k0_dev3 (d0 : Dev nD) : Nat :=
  let c0_i32_28 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v26 : BitVec 32 := Scalar.addi v2 c2_i32
  let c4_i32_14 : BitVec 32 := 4#32
  let c0_i32_15 : BitVec 32 := 0#32
  let v27 : BitVec 1 := Scalar.cmpi .eq c4_i32_14 c0_i32_15
  let c1_i32_16 : BitVec 32 := 1#32
  let v28 : BitVec 32 := Scalar.select v27 c1_i32_16 c4_i32_14
  let v29 : BitVec 32 := Scalar.remsi v26 v28
  let c0_i32_18 : BitVec 32 := 0#32
  let v31 : BitVec 1 := Scalar.cmpi .slt v29 c0_i32_18
  let c0_i32_19 : BitVec 32 := 0#32
  let v32 : BitVec 1 := Scalar.cmpi .slt v28 c0_i32_19
  let v33 : BitVec 1 := Scalar.xori v31 v32
  let c0_i32_17 : BitVec 32 := 0#32
  let v30 : BitVec 1 := Scalar.cmpi .ne v29 c0_i32_17
  let v34 : BitVec 1 := Scalar.andi v33 v30
  let v35 : BitVec 32 := Scalar.addi v29 v28
  let v36 : BitVec 32 := Scalar.select v34 v35 v29
  let c1_i32_27 : BitVec 32 := 1#32
  let v42 : BitVec 32 := Scalar.muli v36 c1_i32_27
  let v43 : BitVec 32 := Scalar.addi c0_i32_28 v42
  v43.toNat
def k0_dev4 (d0 : Dev nD) : Nat :=
  let c0_i32_50 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_49 : BitVec 32 := 1#32
  let v66 : BitVec 32 := Scalar.muli v14 c1_i32_49
  let v67 : BitVec 32 := Scalar.addi c0_i32_50 v66
  v67.toNat
def k0_dev5 (d0 : Dev nD) : Nat :=
  let c0_i32_62 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_61 : BitVec 32 := 1#32
  let v76 : BitVec 32 := Scalar.muli v25 c1_i32_61
  let v77 : BitVec 32 := Scalar.addi c0_i32_62 v76
  v77.toNat
def k0_dev6 (d0 : Dev nD) : Nat :=
  let c0_i32_74 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v26 : BitVec 32 := Scalar.addi v2 c2_i32
  let c4_i32_14 : BitVec 32 := 4#32
  let c0_i32_15 : BitVec 32 := 0#32
  let v27 : BitVec 1 := Scalar.cmpi .eq c4_i32_14 c0_i32_15
  let c1_i32_16 : BitVec 32 := 1#32
  let v28 : BitVec 32 := Scalar.select v27 c1_i32_16 c4_i32_14
  let v29 : BitVec 32 := Scalar.remsi v26 v28
  let c0_i32_18 : BitVec 32 := 0#32
  let v31 : BitVec 1 := Scalar.cmpi .slt v29 c0_i32_18
  let c0_i32_19 : BitVec 32 := 0#32
  let v32 : BitVec 1 := Scalar.cmpi .slt v28 c0_i32_19
  let v33 : BitVec 1 := Scalar.xori v31 v32
  let c0_i32_17 : BitVec 32 := 0#32
  let v30 : BitVec 1 := Scalar.cmpi .ne v29 c0_i32_17
  let v34 : BitVec 1 := Scalar.andi v33 v30
  let v35 : BitVec 32 := Scalar.addi v29 v28
  let v36 : BitVec 32 := Scalar.select v34 v35 v29
  let c1_i32_73 : BitVec 32 := 1#32
  let v86 : BitVec 32 := Scalar.muli v36 c1_i32_73
  let v87 : BitVec 32 := Scalar.addi c0_i32_74 v86
  v87.toNat
def k0_dev7 (d0 : Dev nD) : Nat :=
  let c0_i32_492 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_491 : BitVec 32 := 1#32
  let v712 : BitVec 32 := Scalar.muli v14 c1_i32_491
  let v713 : BitVec 32 := Scalar.addi c0_i32_492 v712
  v713.toNat
def k0_dev8 (d0 : Dev nD) : Nat :=
  let c0_i32_723 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_722 : BitVec 32 := 1#32
  let v1033 : BitVec 32 := Scalar.muli v25 c1_i32_722
  let v1034 : BitVec 32 := Scalar.addi c0_i32_723 v1033
  v1034.toNat
def k0_dev9 (d0 : Dev nD) : Nat :=
  let c0_i32_954 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v26 : BitVec 32 := Scalar.addi v2 c2_i32
  let c4_i32_14 : BitVec 32 := 4#32
  let c0_i32_15 : BitVec 32 := 0#32
  let v27 : BitVec 1 := Scalar.cmpi .eq c4_i32_14 c0_i32_15
  let c1_i32_16 : BitVec 32 := 1#32
  let v28 : BitVec 32 := Scalar.select v27 c1_i32_16 c4_i32_14
  let v29 : BitVec 32 := Scalar.remsi v26 v28
  let c0_i32_18 : BitVec 32 := 0#32
  let v31 : BitVec 1 := Scalar.cmpi .slt v29 c0_i32_18
  let c0_i32_19 : BitVec 32 := 0#32
  let v32 : BitVec 1 := Scalar.cmpi .slt v28 c0_i32_19
  let v33 : BitVec 1 := Scalar.xori v31 v32
  let c0_i32_17 : BitVec 32 := 0#32
  let v30 : BitVec 1 := Scalar.cmpi .ne v29 c0_i32_17
  let v34 : BitVec 1 := Scalar.andi v33 v30
  let v35 : BitVec 32 := Scalar.addi v29 v28
  let v36 : BitVec 32 := Scalar.select v34 v35 v29
  let c1_i32_953 : BitVec 32 := 1#32
  let v1354 : BitVec 32 := Scalar.muli v36 c1_i32_953
  let v1355 : BitVec 32 := Scalar.addi c0_i32_954 v1354
  v1355.toNat
abbrev stage0_0 : Fin 1 → Memref sig .tc .vmem S2x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S8x128x512 : Shape := ⟨3, ![8, 128, 512]⟩
abbrev S512x2048 : Shape := ⟨2, ![512, 2048]⟩
abbrev S2048x512 : Shape := ⟨2, ![2048, 512]⟩
abbrev S8x128x2048 : Shape := ⟨3, ![8, 128, 2048]⟩
abbrev S8x128x32x64 : Shape := ⟨4, ![8, 128, 32, 64]⟩
abbrev S8x32x128x128 : Shape := ⟨4, ![8, 32, 128, 128]⟩
abbrev S_ : Shape := ⟨0, ![]⟩
abbrev S8x32x128 : Shape := ⟨3, ![8, 32, 128]⟩
abbrev S8x32x128x1 : Shape := ⟨4, ![8, 32, 128, 1]⟩
abbrev S8x32x64x128 : Shape := ⟨4, ![8, 32, 64, 128]⟩
abbrev S8x128x32x1 : Shape := ⟨4, ![8, 128, 32, 1]⟩

abbrev nBuf : Space → Nat
  | .hbm => 36
  | .vmem => 0
  | .smem => 0
  | _ => 0

abbrev bufTy : (tb : Table) → Fin (tcTables nBuf tb) → BufTy
  | .hbm, ⟨0, _⟩ => ⟨S8x128x512, .bf16⟩
  | .hbm, ⟨1, _⟩ => ⟨S512x2048, .bf16⟩
  | .hbm, ⟨2, _⟩ => ⟨S2048x512, .bf16⟩
  | .hbm, ⟨3, _⟩ => ⟨S512x2048, .bf16⟩
  | .hbm, ⟨4, _⟩ => ⟨S512x2048, .bf16⟩
  | .hbm, ⟨5, _⟩ => ⟨S8x128x512, .f32⟩
  | .hbm, ⟨6, _⟩ => ⟨S512x2048, .f32⟩
  | .hbm, ⟨7, _⟩ => ⟨S2048x512, .f32⟩
  | .hbm, ⟨8, _⟩ => ⟨S512x2048, .f32⟩
  | .hbm, ⟨9, _⟩ => ⟨S512x2048, .f32⟩
  | .hbm, ⟨10, _⟩ => ⟨S8x128x2048, .f32⟩
  | .hbm, ⟨11, _⟩ => ⟨S8x128x32x64, .f32⟩
  | .hbm, ⟨12, _⟩ => ⟨S8x128x2048, .f32⟩
  | .hbm, ⟨13, _⟩ => ⟨S8x128x32x64, .f32⟩
  | .hbm, ⟨14, _⟩ => ⟨S8x128x2048, .f32⟩
  | .hbm, ⟨15, _⟩ => ⟨S8x128x32x64, .f32⟩
  | .hbm, ⟨16, _⟩ => ⟨S8x32x128x128, .f32⟩
  | .hbm, ⟨17, _⟩ => ⟨S_, .f32⟩
  | .hbm, ⟨18, _⟩ => ⟨S8x32x128x128, .f32⟩
  | .hbm, ⟨19, _⟩ => ⟨S8x32x128x128, .f32⟩
  | .hbm, ⟨20, _⟩ => ⟨S_, .f32⟩
  | .hbm, ⟨21, _⟩ => ⟨S8x32x128, .f32⟩
  | .hbm, ⟨22, _⟩ => ⟨S8x32x128x1, .f32⟩
  | .hbm, ⟨23, _⟩ => ⟨S8x32x128x128, .f32⟩
  | .hbm, ⟨24, _⟩ => ⟨S8x32x128x128, .f32⟩
  | .hbm, ⟨25, _⟩ => ⟨S8x32x128x128, .f32⟩
  | .hbm, ⟨26, _⟩ => ⟨S_, .f32⟩
  | .hbm, ⟨27, _⟩ => ⟨S8x32x128, .f32⟩
  | .hbm, ⟨28, _⟩ => ⟨S8x32x128x1, .f32⟩
  | .hbm, ⟨29, _⟩ => ⟨S8x32x64x128, .f32⟩
  | .hbm, ⟨30, _⟩ => ⟨S8x128x32x64, .f32⟩
  | .hbm, ⟨31, _⟩ => ⟨S8x128x32x1, .f32⟩
  | .hbm, ⟨32, _⟩ => ⟨S8x128x32x64, .f32⟩
  | .hbm, ⟨33, _⟩ => ⟨S8x128x32x64, .f32⟩
  | .hbm, ⟨34, _⟩ => ⟨S8x128x2048, .f32⟩
  | .hbm, ⟨35, _⟩ => ⟨S8x128x512, .f32⟩
  | _, _ => ⟨S8x128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]
-- ==== Proof.Flat.lean ====
/-
  The kernel function, written once more in the order a reader would write it: what a device does before the first
  block, the work on one block of the gathered activations (for a block named by a variable, its sixteen heads in a
  loop), the six transfers and their waits, and what a device does after the last block. `body_eq` says that the
  printed kernel function on the launch's own buffers is this program.
-/
module

public import proofs.«01_k».proof.Proof.Gen.KernelIdeal.Skeleton
public import proofs.«01_k».proof.Proof.Gen.KernelIdeal.Launch
public import proofs.«01_k».proof.Proof.Gen.KernelIdeal.Points

@[expose] public section

set_option maxRecDepth 65536

noncomputable section

namespace Cert.Proof

open Idealize.ShloMosaic Idealize.SL.Sem
open Cert.KernelIdeal
open Cert.KernelIdeal.Facts₀ Cert.KernelIdeal.Facts

variable {F : FTy → Type} [FloatOps F]

/-! ## The buffers and the semaphores -/

abbrev xM : Memref sig .tc .vmem S2x128x512 .bf16 := Memref.whole cc0_stg0_0
abbrev wqM : Memref sig .tc .vmem S512x512 .bf16 := Memref.whole cc0_stg1_0
abbrev woM : Memref sig .tc .vmem S512x512 .bf16 := Memref.whole cc0_stg2_0
abbrev wkM : Memref sig .tc .vmem S512x512 .bf16 := Memref.whole cc0_stg3_0
abbrev wvM : Memref sig .tc .vmem S512x512 .bf16 := Memref.whole cc0_stg4_0
abbrev outM : Memref sig .tc .vmem S2x128x512 .f32 := Memref.whole cc0_stg5_0
/-- The gathered activations: block `s` of device `c` is device `c + s`'s. -/
abbrev commM : Memref sig .tc .vmem S4x2x128x512 .bf16 := Memref.whole cc0_scratch0
/-- The partial results, one per block. -/
abbrev partM : Memref sig .tc .vmem S4x2x128x512 .bf16 := Memref.whole cc0_scratch1
/-- The partial results received from the three peers. -/
abbrev rsM : Memref sig .tc .vmem S3x2x128x512 .bf16 := Memref.whole cc0_scratch2
/-- The three weights of the projections side by side, the first one scaled. -/
abbrev wqkvM : Memref sig .tc .vmem S512x1536 .bf16 := Memref.whole cc0_scratch3
abbrev qM : Memref sig .tc .vmem S16x128x64 .bf16 := Memref.whole cc0_scratch4
abbrev kM : Memref sig .tc .vmem S16x128x64 .bf16 := Memref.whole cc0_scratch5
abbrev vM : Memref sig .tc .vmem S16x128x64 .bf16 := Memref.whole cc0_scratch6
/-- The attention's output, the heads put side by side again. -/
abbrev attnM : Memref sig .tc .vmem S256x512 .bf16 := Memref.whole cc0_scratch7

theorem inb4 : ∀ (r : Fin 4) (a : Fin 4), (![r.val, 0, 0, 0] : Fin 4 → Nat) a + S1x2x128x512.size a ≤ S4x2x128x512.size a := by decide
theorem inb3 : ∀ (r : Fin 3) (a : Fin 4), (![r.val, 0, 0, 0] : Fin 4 → Nat) a + S1x2x128x512.size a ≤ S3x2x128x512.size a := by decide
theorem inbRow : ∀ (r : Fin 4) (j : Fin 2) (a : Fin 4), (![r.val, j.val, 0, 0] : Fin 4 → Nat) a + S1x1x128x512.size a ≤ S4x2x128x512.size a := by decide
theorem inbHead : ∀ (i : Fin 16) (a : Fin 3), (![i.val, 0, 0] : Fin 3 → Nat) a + S1x128x64.size a ≤ S16x128x64.size a := by decide
theorem inbAttn : ∀ (i : Fin 16) (a : Fin 2), (![128 * (i.val / 8), 64 * (i.val % 8)] : Fin 2 → Nat) a + S128x64.size a ≤ S256x512.size a := by decide
theorem inbW : ∀ (j : Fin 3) (a : Fin 2), (![0, 512 * j.val] : Fin 2 → Nat) a + S512x512.size a ≤ S512x1536.size a := by decide
theorem inbSem3 : ∀ (i : Fin 3) (a : Fin 1), (![i.val] : Fin 1 → Nat) a + S1.size a ≤ S3.size a := by decide
theorem inbSem4 : ∀ (i : Fin 4) (a : Fin 1), (![i.val] : Fin 1 → Nat) a + S1.size a ≤ S4.size a := by decide

/-- The rectangle of block `r` of four. -/
abbrev rect4 (r : Fin 4) : Rect S4x2x128x512 := Rect.unit (s := S4x2x128x512) ![r.val, 0, 0, 0] S1x2x128x512.size (inb4 r)
/-- The rectangle of block `r` of three. -/
abbrev rect3 (r : Fin 3) : Rect S3x2x128x512 := Rect.unit (s := S3x2x128x512) ![r.val, 0, 0, 0] S1x2x128x512.size (inb3 r)
/-- The rectangle of batch element `j` of block `r`. -/
abbrev rectRow (r : Fin 4) (j : Fin 2) : Rect S4x2x128x512 :=
  Rect.unit (s := S4x2x128x512) ![r.val, j.val, 0, 0] S1x1x128x512.size (inbRow r j)
/-- The rectangle of head `i` in the buffers laid out head by head. -/
abbrev rectHead (i : Fin 16) : Rect S16x128x64 := Rect.unit (s := S16x128x64) ![i.val, 0, 0] S1x128x64.size (inbHead i)
/-- The rectangle of head `i` in the attention's output: its batch element's rows, its own 64 columns. -/
abbrev rectAttn (i : Fin 16) : Rect S256x512 :=
  Rect.unit (s := S256x512) ![128 * (i.val / 8), 64 * (i.val % 8)] S128x64.size (inbAttn i)
/-- The rectangle of the `j`-th weight among the three side by side. -/
abbrev rectW (j : Fin 3) : Rect S512x1536 := Rect.unit (s := S512x1536) ![0, 512 * j.val] S512x512.size (inbW j)
abbrev rectAllW : Rect S512x1536 := Rect.unit (s := S512x1536) ![0, 0] S512x1536.size inb_S512x1536_S512x1536_0_0
abbrev rectAllH : Rect S16x128x64 := Rect.unit (s := S16x128x64) ![0, 0, 0] S16x128x64.size inb_S16x128x64_S16x128x64_0_0_0
abbrev rectAllA : Rect S256x512 := Rect.unit (s := S256x512) ![0, 0] S256x512.size inb_S256x512_S256x512_0_0
abbrev rectAllX : Rect S2x128x512 := Rect.unit (s := S2x128x512) ![0, 0, 0] S2x128x512.size inb_S2x128x512_S2x128x512_0_0_0
abbrev rectAllS : Rect S512x512 := Rect.unit (s := S512x512) ![0, 0] S512x512.size inb_S512x512_S512x512_0_0

theorem words4 : ∀ r : Fin 4, (rect4 r).WholeWords (EltTy.packing .bf16) :=
  Fin.forall_fin_succ.mpr ⟨wordsbf16_S4x2x128x512_S1x2x128x512_0_0_0_0, Fin.forall_fin_succ.mpr
    ⟨wordsbf16_S4x2x128x512_S1x2x128x512_1_0_0_0, Fin.forall_fin_succ.mpr
      ⟨wordsbf16_S4x2x128x512_S1x2x128x512_2_0_0_0, Fin.forall_fin_one.mpr wordsbf16_S4x2x128x512_S1x2x128x512_3_0_0_0⟩⟩⟩
theorem words3 : ∀ r : Fin 3, (rect3 r).WholeWords (EltTy.packing .bf16) :=
  Fin.forall_fin_succ.mpr ⟨wordsbf16_S3x2x128x512_S1x2x128x512_0_0_0_0, Fin.forall_fin_succ.mpr
    ⟨wordsbf16_S3x2x128x512_S1x2x128x512_1_0_0_0, Fin.forall_fin_one.mpr wordsbf16_S3x2x128x512_S1x2x128x512_2_0_0_0⟩⟩

/-- Block `s` of the gathered activations. -/
abbrev comm (s : Fin 4) : Memref sig .tc .vmem S2x128x512 .bf16 :=
  (commM.slice (rect4 s) (fun _ => rfl)).squeeze S2x128x512 squeezes_S1x2x128x512_S2x128x512
/-- Block `s` of the partial results. -/
abbrev part (s : Fin 4) : Memref sig .tc .vmem S2x128x512 .bf16 :=
  (partM.slice (rect4 s) (fun _ => rfl)).squeeze S2x128x512 squeezes_S1x2x128x512_S2x128x512
/-- Block `s` of the received partial results. -/
abbrev rs (s : Fin 3) : Memref sig .tc .vmem S2x128x512 .bf16 :=
  (rsM.slice (rect3 s) (fun _ => rfl)).squeeze S2x128x512 squeezes_S1x2x128x512_S2x128x512

theorem commWords (s : Fin 4) : (comm s).view.WordExact := (Memref.isWhole_whole cc0_scratch0 |>.wordExact_slice rfl _ (words4 s)).reshape _ _
theorem partWords (s : Fin 4) : (part s).view.WordExact := (Memref.isWhole_whole cc0_scratch1 |>.wordExact_slice rfl _ (words4 s)).reshape _ _
theorem rsWords (s : Fin 3) : (rs s).view.WordExact := (Memref.isWhole_whole cc0_scratch2 |>.wordExact_slice rfl _ (words3 s)).reshape _ _

/-- The barrier's semaphore. -/
abbrev barS : Sem sig := (SemArray.scalar (sig.barrier 0 rfl) : Sems sig S_).sem
/-- The semaphore a device waits for its `i`-th copy of its own activations to have left. -/
abbrev agSend (i : Fin 3) : DmaSem sig :=
  ((cc0_scratch8.slice (Rect.unit (s := S3) ![i.val] S1.size (inbSem3 i))).squeeze S_ squeezes_S1_S_).sem
/-- The semaphore a device waits for block `s` of the activations to have arrived. -/
abbrev agRecv (s : Fin 4) : DmaSem sig :=
  ((cc0_scratch9.slice (Rect.unit (s := S4) ![s.val] S1.size (inbSem4 s))).squeeze S_ squeezes_S1_S_).sem
/-- The semaphore of the `i`-th partial result sent. -/
abbrev rsSend (i : Fin 4) : DmaSem sig :=
  ((cc0_scratch10.slice (Rect.unit (s := S4) ![i.val] S1.size (inbSem4 i))).squeeze S_ squeezes_S1_S_).sem
/-- The semaphore of the `i`-th partial result received. -/
abbrev rsRecv (i : Fin 4) : DmaSem sig :=
  ((cc0_scratch11.slice (Rect.unit (s := S4) ![i.val] S1.size (inbSem4 i))).squeeze S_ squeezes_S1_S_).sem

/-! ## Storing packed rows -/

theorem packHead : ∀ i : Fin 16, (rectHead i).PackedRows (EltTy.packing .bf16) := by decide
theorem packAttn : ∀ i : Fin 16, (rectAttn i).PackedRows (EltTy.packing .bf16) := by decide
theorem packRow : ∀ (r : Fin 4) (j : Fin 2), (rectRow r j).PackedRows (EltTy.packing .bf16) := by decide
theorem pack4 : ∀ r : Fin 4, (rect4 r).PackedRows (EltTy.packing .bf16) := by decide
theorem packW : ∀ j : Fin 3, (rectW j).PackedRows (EltTy.packing .bf16) := by decide

theorem slicesQkv : ∀ (t : Fin 3) (i : Fin 16), S256x1536.Slices ![128 * (i.val / 8), 512 * t.val + 64 * (i.val % 8)] S128x64 := by decide
theorem slicesHead : ∀ i : Fin 16, S16x128x64.Slices ![i.val, 0, 0] S1x128x64 := by decide
theorem slicesRow : ∀ j : Fin 2, S256x512.Slices ![128 * j.val, 0] S128x512 := by decide

/-! ## What a block stores -/

/-- Head `i` of the `t`-th of the three projections of a block: its batch element's rows, its own 64 columns. -/
def headPay (t : Fin 3) (i : Fin 16) (qkv : FVec F S256x1536 .bf16) : FVec F S1x128x64 .bf16 :=
  shapeCast S1x128x64 (extractStridedSlice S128x64 ![128 * (i.val / 8), 512 * t.val + 64 * (i.val % 8)] qkv (slicesQkv t i))
    shapeCasts_S128x64_S1x128x64

/-- Head `i` of the attention's output. -/
def attnPay (i : Fin 16) (o : FVec F S16x128x64 .bf16) : FVec F S128x64 .bf16 :=
  shapeCast S128x64 (shapeCast S128x64 (extractStridedSlice S1x128x64 ![i.val, 0, 0] o (slicesHead i))
    shapeCasts_S1x128x64_S128x64) shapeCasts_S128x64_S128x64

/-- Batch element `j` of a block's partial result. -/
def rowPay (j : Fin 2) (p : FVec F S256x512 .bf16) : FVec F S1x1x128x512 .bf16 :=
  shapeCast S1x1x128x512 (extractStridedSlice S128x512 ![128 * j.val, 0] p (slicesRow j)) shapeCasts_S128x512_S1x1x128x512

/-! ## The program -/

variable (F) in
abbrev Code (α : Type) : Type 1 := Prog (TpuEff nD τ sig (Elt F) Λ₀ .tc) α

/-- Store one block of the three-dimensional head buffer `m` at head `i` (the block is loaded first). -/
def putHead (m : Memref sig .tc .vmem S16x128x64 .bf16) (hm : m.IsWhole) (i : Fin 16) (w : FVec F S1x128x64 .bf16) : Code F PUnit := do
  let _ : Vec F S1x128x64 .bf16 ← Prog.lift (.load m (rectHead i).toLoadRect (View.loadsAt_vmem h_S1x128x64))
  Prog.lift (.store m (rectHead i) w Finset.univ (View.stores_vmem h_S1x128x64 (hm.storeExact_slice rfl _ (packHead i)) (fun _ => rfl)) (.inl rfl))

/-- One head of the three projections put in its place. -/
def head (qkv : FVec F S256x1536 .bf16) (i : Fin 16) : Code F PUnit := do
  putHead qM (Memref.isWhole_whole _) i (headPay 0 i qkv)
  putHead kM (Memref.isWhole_whole _) i (headPay 1 i qkv)
  putHead vM (Memref.isWhole_whole _) i (headPay 2 i qkv)

/-- The first `n` heads of the three projections put in their places, in order. -/
def heads (qkv : FVec F S256x1536 .bf16) : (n : Nat) → n ≤ 16 → Code F PUnit
  | 0, _ => pure ⟨⟩
  | n + 1, h => do
    heads qkv n (Nat.le_of_succ_le h)
    head qkv ⟨n, h⟩

/-- Head `i` of the attention's output put in its place. -/
def attnHead (o : FVec F S16x128x64 .bf16) (i : Fin 16) : Code F PUnit := do
  let _ : Vec F S128x64 .bf16 ← Prog.lift (.load attnM (rectAttn i).toLoadRect (View.loadsAt_vmem h_S128x64))
  Prog.lift (.store attnM (rectAttn i) (attnPay i o) Finset.univ
    (View.stores_vmem h_S128x64 ((Memref.isWhole_whole cc0_scratch7).storeExact_slice rfl _ (packAttn i)) (fun _ => rfl)) (.inl rfl))

/-- The first `n` heads of the attention's output put in their places, in order. -/
def attnHeads (o : FVec F S16x128x64 .bf16) : (n : Nat) → n ≤ 16 → Code F PUnit
  | 0, _ => pure ⟨⟩
  | n + 1, h => do
    attnHeads o n (Nat.le_of_succ_le h)
    attnHead o ⟨n, h⟩

/-- Batch element `j` of block `r`'s partial result put in its place. -/
def partRow (r : Fin 4) (p : FVec F S256x512 .bf16) (j : Fin 2) : Code F PUnit := do
  let _ : Vec F S1x1x128x512 .bf16 ← Prog.lift (.load partM (rectRow r j).toLoadRect (View.loadsAt_vmem h_S1x1x128x512))
  Prog.lift (.store partM (rectRow r j) (rowPay j p) Finset.univ
    (View.stores_vmem h_S1x1x128x512 ((Memref.isWhole_whole cc0_scratch1).storeExact_slice rfl _ (packRow r j)) (fun _ => rfl)) (.inl rfl))

/-- The work on block `r` of the gathered activations: the three projections, their heads, the attention of all sixteen
heads at once, the heads put side by side again, and the product with this device's rows of the output weight. -/
def chunk (wo : FVec F S512x512 .bf16) (r : Fin 4) : Code F PUnit := do
  let x : Vec F S1x2x128x512 .bf16 ← Prog.lift (.load commM (rect4 r).toLoadRect (View.loadsAt_vmem h_S1x2x128x512))
  let w : Vec F S512x1536 .bf16 ← Prog.lift (.load wqkvM rectAllW.toLoadRect (View.loadsAt_vmem h_S512x1536))
  heads (Gen.k0_pay6 x w) 16 (Nat.le_refl 16)
  let q : Vec F S16x128x64 .bf16 ← Prog.lift (.load qM rectAllH.toLoadRect (View.loadsAt_vmem h_S16x128x64))
  let k : Vec F S16x128x64 .bf16 ← Prog.lift (.load kM rectAllH.toLoadRect (View.loadsAt_vmem h_S16x128x64))
  let v : Vec F S16x128x64 .bf16 ← Prog.lift (.load vM rectAllH.toLoadRect (View.loadsAt_vmem h_S16x128x64))
  attnHeads (Gen.k0_pay58 q k v) 16 (Nat.le_refl 16)
  let a : Vec F S256x512 .bf16 ← Prog.lift (.load attnM rectAllA.toLoadRect (View.loadsAt_vmem h_S256x512))
  partRow r (Gen.k0_pay77 wo a) 0
  partRow r (Gen.k0_pay77 wo a) 1

/-- One weight put among the three side by side. -/
def putW (j : Fin 3) (w : FVec F S512x512 .bf16) : Code F PUnit := do
  let _ : Vec F S512x512 .bf16 ← Prog.lift (.load wqkvM (rectW j).toLoadRect (View.loadsAt_vmem h_S512x512))
  Prog.lift (.store wqkvM (rectW j) w Finset.univ
    (View.stores_vmem h_S512x512 ((Memref.isWhole_whole cc0_scratch3).storeExact_slice rfl _ (packW j)) (fun _ => rfl)) (.inl rfl))

/-- A weight's block read whole. -/
def getS (m : Memref sig .tc .vmem S512x512 .bf16) : Code F (Vec F S512x512 .bf16) :=
  Prog.lift (.load m rectAllS.toLoadRect (View.loadsAt_vmem h_S512x512))

/-- The device's own activations put in block 0, the three weights put side by side. -/
def fill : Code F PUnit := do
  let x : Vec F S2x128x512 .bf16 ← Prog.lift (.load xM rectAllX.toLoadRect (View.loadsAt_vmem h_S2x128x512))
  let _ : Vec F S1x2x128x512 .bf16 ← Prog.lift (.load commM (rect4 0).toLoadRect (View.loadsAt_vmem h_S1x2x128x512))
  Prog.lift (.store commM (rect4 0) (Gen.k0_pay1 x) Finset.univ
    (View.stores_vmem h_S1x2x128x512 ((Memref.isWhole_whole cc0_scratch0).storeExact_slice rfl _ (pack4 0)) (fun _ => rfl)) (.inl rfl))
  let wq ← getS wqM
  putW 0 (Gen.k0_pay2 wq)
  let wk ← getS wkM
  putW 1 (Gen.k0_pay3 wk)
  let wv ← getS wvM
  putW 2 (Gen.k0_pay4 wv)

/-- The device's own activations copied into block `s` of device `d`. -/
def agCopy (d : Dev nD) (s : Fin 4) (i : Fin 3) : Code F PUnit :=
  Prog.lift (.enqueueDma (comm 0) (.remote (Dev.tc d) (comm s) (.dma (agSend i))) (.dma (agRecv s)) (commWords 0) (commWords s)
    ⟨⟨rfl, Or.inl rfl⟩, trivial⟩)

/-- Block `r`'s partial result copied into received block `s` of device `d`. -/
def rsCopy (d : Dev nD) (r : Fin 4) (s : Fin 3) : Code F PUnit :=
  Prog.lift (.enqueueDma (part r) (.remote (Dev.tc d) (rs s) (.dma (rsSend s.castSucc))) (.dma (rsRecv s.castSucc)) (partWords r)
    (rsWords s) ⟨⟨rfl, Or.inl rfl⟩, trivial⟩)

/-- Wait for block `s` of the activations to arrive. -/
def agWaitRecv (s : Fin 4) : Code F PUnit := Prog.lift (.waitDma2 (agRecv s) (comm 0) (comm s) (commWords 0) (commWords s))
/-- Wait for received block `s` to arrive. -/
def rsWaitRecv (s : Fin 3) : Code F PUnit := Prog.lift (.waitDma2 (rsRecv s.castSucc) (part 0) (rs s) (partWords 0) (rsWords s))
/-- Wait for the copy of the device's own activations into block `s` to have left. -/
def agWaitSend (s : Fin 4) (i : Fin 3) : Code F PUnit :=
  Prog.lift (.waitDma2 (agSend i) (comm s) (comm 0) (commWords s) (commWords 0))
/-- Wait for the copy of block `r`'s partial result to have left. -/
def rsWaitSend (r : Fin 4) (s : Fin 3) : Code F PUnit :=
  Prog.lift (.waitDma2 (rsSend s.castSucc) (rs s) (part r) (rsWords s) (partWords r))

/-- The four partial results of this device's own block added and stored, the three received ones as they arrive. -/
def reduce : Code F PUnit := do
  rsWaitRecv 1
  let p : Vec F S1x2x128x512 .bf16 ← Prog.lift (.load partM (rect4 0).toLoadRect (View.loadsAt_vmem h_S1x2x128x512))
  let a : Vec F S1x2x128x512 .bf16 ← Prog.lift (.load rsM (rect3 1).toLoadRect (View.loadsAt_vmem h_S1x2x128x512))
  rsWaitRecv 0
  let b : Vec F S1x2x128x512 .bf16 ← Prog.lift (.load rsM (rect3 0).toLoadRect (View.loadsAt_vmem h_S1x2x128x512))
  rsWaitRecv 2
  let e : Vec F S1x2x128x512 .bf16 ← Prog.lift (.load rsM (rect3 2).toLoadRect (View.loadsAt_vmem h_S1x2x128x512))
  let _ : Vec F S2x128x512 .f32 ← Prog.lift (.load outM rectAllX.toLoadRect (View.loadsAt_vmem h_S2x128x512))
  Prog.lift (.store outM rectAllX (Gen.k0_pay305 (Gen.k0_pay304 p a) b e) Finset.univ
    (View.stores_vmem_bits_univ h_S2x128x512 rfl) (.inl rfl))

/-- The kernel's work after it has read its device's number `d`. -/
def mainOf (d : Dev nD) : Code F PUnit := do
  semSignalWord (⟨k0_dev1 d, k0_dev1_lt d⟩ : Dev nD) barS 1#32
  semSignalWord (⟨k0_dev2 d, k0_dev2_lt d⟩ : Dev nD) barS 1#32
  semSignalWord (⟨k0_dev3 d, k0_dev3_lt d⟩ : Dev nD) barS 1#32
  fill
  semWaitWord barS 3#32
  agCopy ⟨k0_dev4 d, k0_dev4_lt d⟩ 1 0
  agCopy ⟨k0_dev5 d, k0_dev5_lt d⟩ 3 1
  agCopy ⟨k0_dev6 d, k0_dev6_lt d⟩ 2 2
  let wo ← getS woM
  chunk (Gen.k0_pay5 wo) 0
  agWaitRecv 3
  chunk (Gen.k0_pay5 wo) 3
  rsCopy ⟨k0_dev7 d, k0_dev7_lt d⟩ 3 1
  agWaitRecv 1
  chunk (Gen.k0_pay5 wo) 1
  rsCopy ⟨k0_dev8 d, k0_dev8_lt d⟩ 1 0
  agWaitRecv 2
  chunk (Gen.k0_pay5 wo) 2
  rsCopy ⟨k0_dev9 d, k0_dev9_lt d⟩ 2 2
  reduce
  agWaitSend 1 0
  agWaitSend 3 1
  agWaitSend 2 2
  rsWaitSend 1 0
  rsWaitSend 3 1
  rsWaitSend 2 2

/-- The kernel function on the launch's own buffers. -/
def flat : Code F PUnit := do
  let d : Dev nD ← Prog.lift .deviceId
  mainOf d

/-- The printed kernel function on the launch's own buffers is `flat`. -/
theorem body_eq : Gen.bodyAt0 (F := F) Gen.t0_0 = flat := by chain_rfl

end Cert.Proof
-- ==== Proof.Base.lean ====
/-
  The assertions' algebra: the launch's own part beside the exchange's (a cell's duties are named by `Fin 3`), and the
  buffers of a device held whole or block by block.
-/
module

public import proofs.«01_k».proof.Proof.Flat
public import Idealize.ShloMosaic.Lib.Pipeline.Launch
public import Idealize.ShloMosaic.Lib.Pipeline.Kit
public import Idealize.ShloMosaic.Lib.Pipeline.Value
public import Idealize.ShloMosaic.Lib.Tactic

@[expose] public section

set_option maxRecDepth 16384

noncomputable section

namespace Cert.Proof

open Cert.KernelIdeal
open Cert.KernelIdeal.Facts₀ Cert.KernelIdeal.Facts
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-- The buffer `b` of device `c` held whole with contents `f`. -/
abbrev holds (c : Dev nD) (b : Ref sig .tc) (f : Buf (Elt F) ((c : Thread nD τ).loc b)) : sProp 𝕄 :=
  ((c : Thread nD τ).loc b) ↦{fullShare} f

/-- The buffer `b` of device `c` held whole with some contents. -/
def some' (c : Dev nD) (b : Ref sig .tc) : sProp 𝕄 := iprop(∃ f, holds (F := F) c b f)

/-- Device `c` holds the block `m` at share `q`, and it reads `X`. -/
abbrev block (c : Dev nD) (m : Memref sig .tc .vmem S2x128x512 .bf16) (q : PosShare TreeShare) (X : FVec F S2x128x512 .bf16) : sProp 𝕄 :=
  owns (c : Thread nD τ) m q X

/-- Device `c` holds the block `m` with some contents. -/
def anyBlock (c : Dev nD) (m : Memref sig .tc .vmem S2x128x512 .bf16) : sProp 𝕄 := iprop(∃ X, block (F := F) c m fullShare X)

/-- A buffer's block stored through, read at an index the block covers. -/
theorem read_put_in {sp : Space} {s : Shape} {e : EltTy} (m : Memref sig .tc sp s e) (r : Rect s) (f : m.view.ty.Contents (Elt F))
    (w : r.shape.Idx → Elt F e) (y : s.Idx) (x : r.shape.Idx) (h : y = r.emb x) :
    m.view.read (Elt F) ((m.access r).write (Elt F) f w Finset.univ) y = w x := by
  subst h; exact View.read_slice_write_emb r f w (Finset.mem_univ x)

/-- A buffer's block stored through, read at an index the block does not cover. -/
theorem read_put_out {sp : Space} {s : Shape} {e : EltTy} (m : Memref sig .tc sp s e) (r : Rect s) (f : m.view.ty.Contents (Elt F))
    (w : r.shape.Idx → Elt F e) (y : s.Idx) (h : ∀ x, y ≠ r.emb x) :
    m.view.read (Elt F) ((m.access r).write (Elt F) f w Finset.univ) y = m.view.read (Elt F) f y :=
  View.read_slice_write_of_not_mem r f w Finset.univ (fun hm => by
    obtain ⟨x, -, hx⟩ := Finset.mem_map.mp hm
    exact h x hx.symm)

end Cert.Proof
-- ==== Proof.Contents.lean ====
/-
  What the buffers of one block's work hold, as functions of an index: the sixteen heads of a projection in a buffer laid
  out head by head, the heads of the attention's output side by side, and the partial result of the block.
-/
module

public import proofs.«01_k».proof.Proof.Base
public import Idealize.ShloMosaic.Lib.Pointwise

@[expose] public section

set_option maxRecDepth 16384

noncomputable section

namespace Cert.Proof

open Cert.KernelIdeal
open Cert.KernelIdeal.Facts₀ Cert.KernelIdeal.Facts
open Idealize.ShloMosaic

variable {F : FTy → Type} [FloatOps F]

/-- The sixteen heads of the `t`-th projection: head `i` takes batch element `i / 8`'s rows and 64 columns. -/
def headBuf (t : Fin 3) (qkv : FVec F S256x1536 .bf16) : FVec F S16x128x64 .bf16 := fun y =>
  qkv (ix2 ⟨128 * ((y 0).val / 8) + (y 1).val, by have := (y 0).isLt; have := (y 1).isLt; simp [S16x128x64] at *; omega⟩
    ⟨512 * t.val + 64 * ((y 0).val % 8) + (y 2).val, by have := t.isLt; have := (y 2).isLt; simp [S16x128x64] at *; omega⟩)

/-- The heads of the attention's output side by side. -/
def attnBuf (o : FVec F S16x128x64 .bf16) : FVec F S256x512 .bf16 := fun y =>
  o (ix3 ⟨8 * ((y 0).val / 128) + (y 1).val / 64, by have := (y 0).isLt; have := (y 1).isLt; simp [S256x512] at *; omega⟩
    ⟨(y 0).val % 128, by omega⟩ ⟨(y 1).val % 64, by omega⟩)

/-- The projections of a block. -/
def qkvOf (X : FVec F S2x128x512 .bf16) (w : FVec F S512x1536 .bf16) : FVec F S256x1536 .bf16 :=
  truncf .bf16 (matmul dot_S256x512_S512x1536_S256x1536_1_0_0_1_n_n none (shapeCast S256x512 X shapeCasts_S2x128x512_S256x512) w
    (constant S256x1536 .f32 0x00000000#32)) bitsLt_bf16_f32

theorem pay6_eq (x : FVec F S1x2x128x512 .bf16) (X : FVec F S2x128x512 .bf16) (w : FVec F S512x1536 .bf16)
    (h : shapeCast S2x128x512 x shapeCasts_S1x2x128x512_S2x128x512 = X) : Gen.k0_pay6 x w = qkvOf X w := by subst h; rfl

/-- The attention of the sixteen heads of a block's projections, the heads side by side. -/
def attnOf (qkv : FVec F S256x1536 .bf16) : FVec F S256x512 .bf16 :=
  attnBuf (Gen.k0_pay58 (headBuf 0 qkv) (headBuf 1 qkv) (headBuf 2 qkv))

/-- The two batch elements of a product of 256 rows. -/
def rowsBuf (p : FVec F S256x512 .bf16) : FVec F S2x128x512 .bf16 := fun y =>
  p (ix2 ⟨128 * (y 0).val + (y 1).val, by have := (y 0).isLt; have := (y 1).isLt; simp [S2x128x512] at *; omega⟩ (y 2))

/-- A block's partial result: its attention times the device's rows of the output weight. -/
def partOf (wo : FVec F S512x512 .bf16) (w : FVec F S512x1536 .bf16) (X : FVec F S2x128x512 .bf16) : FVec F S2x128x512 .bf16 :=
  rowsBuf (Gen.k0_pay77 wo (attnOf (qkvOf X w)))

/-! ## What the stores put where -/

theorem headPay_apply (t : Fin 3) (i : Fin 16) (qkv : FVec F S256x1536 .bf16) (a : Fin 128) (b : Fin 64) :
    headPay t i qkv (ix3 0 a b) = headBuf t qkv (ix3 i a b) := by
  unfold headPay headBuf
  pointwise

theorem attnPay_apply (i : Fin 16) (o : FVec F S16x128x64 .bf16) (a : Fin 128) (b : Fin 64) :
    attnPay i o (ix2 a b) = o (ix3 i a b) := by
  unfold attnPay
  pointwise

theorem rowPay_apply (j : Fin 2) (p : FVec F S256x512 .bf16) (a : Fin 128) (b : Fin 512) :
    rowPay j p (ix4 0 0 a b) = rowsBuf p (ix3 j a b) := by
  unfold rowPay rowsBuf
  pointwise

/-- The position of head `i`'s row `a`, column `b` in the attention's output. -/
theorem attn_val (i : Fin 16) (a : Fin 128) : 128 * (i.val / 8) + a.val < 256 := by omega
theorem attn_val' (i : Fin 16) (b : Fin 64) : 64 * (i.val % 8) + b.val < 512 := by omega

theorem attnBuf_apply (i : Fin 16) (o : FVec F S16x128x64 .bf16) (a : Fin 128) (b : Fin 64) :
    attnBuf o (ix2 ⟨128 * (i.val / 8) + a.val, attn_val i a⟩ ⟨64 * (i.val % 8) + b.val, attn_val' i b⟩) = o (ix3 i a b) := by
  unfold attnBuf
  congr 1
  idx_ext <;> simp <;> omega

theorem emb_head (i : Fin 16) (a : Fin 128) (b : Fin 64) : (ix3 i a b : S16x128x64.Idx) = (rectHead i).emb (ix3 0 a b) := by
  idx_ext <;> simp

theorem emb_attn (i : Fin 16) (a : Fin 128) (b : Fin 64) :
    (ix2 ⟨128 * (i.val / 8) + a.val, attn_val i a⟩ ⟨64 * (i.val % 8) + b.val, attn_val' i b⟩ : S256x512.Idx)
      = (rectAttn i).emb (ix2 a b) := by
  idx_ext <;> simp

theorem emb_row (r : Fin 4) (j : Fin 2) (a : Fin 128) (b : Fin 512) :
    (ix4 r j a b : S4x2x128x512.Idx) = (rectRow r j).emb (ix4 0 0 a b) := by
  idx_ext <;> simp

theorem emb_slot (r : Fin 4) (j : Fin 2) (a : Fin 128) (b : Fin 512) :
    (ix4 r j a b : S4x2x128x512.Idx) = (rect4 r).emb (ix4 0 j a b) := by
  idx_ext <;> simp

end Cert.Proof
-- ==== Proof.Chunk.lean ====
/-
  The work on one block of the gathered activations, run from the buffers it reads and writes: for a block named by a
  variable, the sixteen heads stored one after the other by induction on how many are in place, and at the end the block's
  partial result.
-/
module

public import proofs.«01_k».proof.Proof.Contents

@[expose] public section

set_option maxRecDepth 16384

noncomputable section

namespace Cert.Proof

open Cert.KernelIdeal
open Cert.KernelIdeal.Facts₀ Cert.KernelIdeal.Facts
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The weakest precondition of a program on device `c`. -/
abbrev Runs (c : Dev nD) {α : Type} (p : Code F α) (Q : α → sProp 𝕄) : sProp 𝕄 :=
  wp frame (wpE (defs₀ (F := F)) 𝒱₀ (c : Thread nD τ) none) Set.univ p Q

theorem runs_bind (c : Dev nD) {α β : Type} (p : Code F α) (k : α → Code F β) (Q : β → sProp 𝕄) :
    Runs c (p >>= k) Q = Runs c p (fun a => Runs c (k a) Q) := wp_bind _ _ _ p k Q

theorem runs_ret (c : Dev nD) {α : Type} (a : α) (Q : α → sProp 𝕄) :
    Runs c (.ret a) Q = iprop(|={Set.univ}=> Q a) := wp_ret _ _ _ a Q

/-- One load of elements held at any share. -/
theorem runs_load (c : Dev nD) {cs : CoreSpace} {sh : Shape} {e : EltTy} {m : Memref sig .tc cs sh e} {r : LoadRect sh} {hl : m.view.LoadsAt r}
    {S : Finset (Idx (m.view.loc (c : Thread nD τ)))} {q : PosShare TreeShare} {f : Buf (Elt F) (m.view.loc (c : Thread nD τ))}
    (hS : m.view.setOn r.set ⊆ S) (Q : (r.shape.Idx → Elt F e) → sProp 𝕄) :
    iprop((m.view.loc (c : Thread nD τ) ↦[S]{q} f) ∗ ((m.view.loc (c : Thread nD τ) ↦[S]{q} f) -∗ Q (m.view.readAt (Elt F) r f)))
      ⊢ Runs c (Prog.lift (.load m r hl)) Q := by
  unfold Prog.lift
  iintro ⟨Hm, Hk⟩
  iapply (wp_load 𝒱₀ (c : Thread nD τ) none Set.univ (m := m) hS) $$ Hm; iintro Hm
  rw [wp_ret]; imodintro
  iapply Hk; iexact Hm

/-- One unmasked store into elements held whole. -/
theorem runs_store (c : Dev nD) {cs : CoreSpace} {sh : Shape} {e : EltTy} {m : Memref sig .tc cs sh e} {r : Rect sh}
    {w : r.shape.Idx → Elt F e} {hx : (m.access r).Stores Finset.univ} {hm : (Finset.univ : Finset r.shape.Idx) = Finset.univ ∨ ∀ a, r.stride a = 1}
    {S : Finset (Idx (m.view.loc (c : Thread nD τ)))} {f : Buf (Elt F) (m.view.loc (c : Thread nD τ))}
    (hS : (m.access r).setOn Finset.univ ⊆ S) (Q : PUnit → sProp 𝕄) :
    iprop((m.view.loc (c : Thread nD τ) ↦[S]{fullShare} f)
        ∗ ((m.view.loc (c : Thread nD τ) ↦[S]{fullShare} ((m.access r).write (Elt F) f w Finset.univ)) -∗ Q ⟨⟩))
      ⊢ Runs c (Prog.lift (.store m r w Finset.univ hx hm)) Q := by
  unfold Prog.lift
  iintro ⟨Hm, Hk⟩
  iapply (wp_store 𝒱₀ (c : Thread nD τ) none Set.univ (m := m) (r := r) (Mk := Finset.univ) hS) $$ Hm; iintro Hm
  rw [wp_ret]; imodintro
  iapply Hk; iexact Hm

/-- One load of a buffer held whole. -/
theorem runs_loadU (c : Dev nD) {cs : CoreSpace} {sh : Shape} {e : EltTy} {m : Memref sig .tc cs sh e} {r : LoadRect sh} {hl : m.view.LoadsAt r}
    {q : PosShare TreeShare} {f : Buf (Elt F) (m.view.loc (c : Thread nD τ))} (Q : (r.shape.Idx → Elt F e) → sProp 𝕄) :
    iprop((m.view.loc (c : Thread nD τ) ↦{q} f) ∗ ((m.view.loc (c : Thread nD τ) ↦{q} f) -∗ Q (m.view.readAt (Elt F) r f)))
      ⊢ Runs c (Prog.lift (.load m r hl)) Q :=
  runs_load c (Finset.subset_univ _) Q

/-- One unmasked store into a buffer held whole. -/
theorem runs_storeU (c : Dev nD) {cs : CoreSpace} {sh : Shape} {e : EltTy} {m : Memref sig .tc cs sh e} {r : Rect sh}
    {w : r.shape.Idx → Elt F e} {hx : (m.access r).Stores Finset.univ} {hm : (Finset.univ : Finset r.shape.Idx) = Finset.univ ∨ ∀ a, r.stride a = 1}
    {f : Buf (Elt F) (m.view.loc (c : Thread nD τ))} (Q : PUnit → sProp 𝕄) :
    iprop((m.view.loc (c : Thread nD τ) ↦{fullShare} f)
        ∗ ((m.view.loc (c : Thread nD τ) ↦{fullShare} ((m.access r).write (Elt F) f w Finset.univ)) -∗ Q ⟨⟩))
      ⊢ Runs c (Prog.lift (.store m r w Finset.univ hx hm)) Q := by
  unfold Prog.lift
  iintro ⟨Hm, Hk⟩
  iapply (wp_store 𝒱₀ (c : Thread nD τ) none Set.univ (m := m) (r := r) (Mk := Finset.univ) (Finset.subset_univ _)) $$ Hm; iintro Hm
  rw [wp_ret]; imodintro
  iapply Hk; iexact Hm

theorem hz3 : (![0, 0, 0] : Fin 3 → Nat) = fun _ => 0 := funext fun a => by fin_cases a <;> rfl
theorem hz2 : (![0, 0] : Fin 2 → Nat) = fun _ => 0 := funext fun a => by fin_cases a <;> rfl

/-! ## One store -/

/-- Storing head `i` of a buffer laid out head by head. -/
theorem runs_putHead (c : Dev nD) (m : Memref sig .tc .vmem S16x128x64 .bf16) (hm : m.IsWhole) (i : Fin 16)
    (w : FVec F S1x128x64 .bf16) (f : Buf (Elt F) (m.view.loc (c : Thread nD τ))) (Q : PUnit → sProp 𝕄) :
    iprop((m.view.loc (c : Thread nD τ) ↦{fullShare} f)
        ∗ ((m.view.loc (c : Thread nD τ) ↦{fullShare} ((m.access (rectHead i)).write (Elt F) f w Finset.univ)) -∗ Q ⟨⟩))
      ⊢ Runs c (putHead m hm i w) Q := by
  unfold putHead
  rw [runs_bind]
  iintro ⟨Hm, Hk⟩
  iapply (runs_loadU c); isplitl [Hm]; · iexact Hm
  iintro Hm
  iapply (runs_storeU c); isplitl [Hm]; · iexact Hm
  iexact Hk

/-- A buffer laid out head by head whose first `n` heads are `g`'s. -/
def headsHeld (c : Dev nD) (m : Memref sig .tc .vmem S16x128x64 .bf16) (n : ℕ) (g : FVec F S16x128x64 .bf16) : sProp 𝕄 :=
  iprop(∃ f, ⌜∀ (i : Fin 16) (a : Fin 128) (b : Fin 64), i.val < n → m.view.read (Elt F) f (ix3 i a b) = g (ix3 i a b)⌝
    ∗ (m.view.loc (c : Thread nD τ) ↦{fullShare} f))

theorem headsHeld_zero (c : Dev nD) (m : Memref sig .tc .vmem S16x128x64 .bf16) (g : FVec F S16x128x64 .bf16)
    (f : Buf (Elt F) (m.view.loc (c : Thread nD τ))) :
    (m.view.loc (c : Thread nD τ) ↦{fullShare} f) ⊢ headsHeld c m 0 g := by
  unfold headsHeld
  iintro H
  iexists f
  isplitr
  · ipureintro; intro i a b h; exact absurd h (Nat.not_lt_zero _)
  iexact H

/-- Storing head `n` where the first `n` heads are in place. -/
theorem runs_putHead_next (c : Dev nD) (m : Memref sig .tc .vmem S16x128x64 .bf16) (hm : m.IsWhole) (n : ℕ) (h : n < 16) (t : Fin 3)
    (qkv : FVec F S256x1536 .bf16) (Q : PUnit → sProp 𝕄) :
    iprop(headsHeld c m n (headBuf t qkv) ∗ (headsHeld c m (n + 1) (headBuf t qkv) -∗ Q ⟨⟩))
      ⊢ Runs c (putHead m hm ⟨n, h⟩ (headPay t ⟨n, h⟩ qkv)) Q := by
  unfold headsHeld
  iintro ⟨⟨%f, %hf, Hm⟩, Hk⟩
  iapply (runs_putHead c m hm ⟨n, h⟩ (headPay t ⟨n, h⟩ qkv) f Q)
  isplitl [Hm]; · iexact Hm
  iintro Hm
  iapply Hk
  iexists _
  isplitr
  swap; · iexact Hm
  ipureintro
  intro i a b hi
  by_cases hin : i = ⟨n, h⟩
  · subst hin
    rw [read_put_in m _ f _ _ (ix3 0 a b) (emb_head _ a b), headPay_apply]
  · rw [read_put_out m _ f _ _ (fun x hx => hin (by
      idx_vars x
      have h0 := congrArg (fun y : S16x128x64.Idx => (y 0).val) hx
      simp at h0
      exact Fin.ext h0))]
    exact hf i a b (by have : i.val ≠ n := fun e => hin (Fin.ext e); omega)

/-- The first `n` heads of the three projections. -/
theorem runs_heads (c : Dev nD) (qkv : FVec F S256x1536 .bf16) (n : ℕ) (h : n ≤ 16) : ∀ (Q : PUnit → sProp 𝕄),
    iprop(headsHeld c qM 0 (headBuf 0 qkv) ∗ headsHeld c kM 0 (headBuf 1 qkv) ∗ headsHeld c vM 0 (headBuf 2 qkv)
        ∗ ((headsHeld c qM n (headBuf 0 qkv) ∗ headsHeld c kM n (headBuf 1 qkv) ∗ headsHeld c vM n (headBuf 2 qkv)) -∗ Q ⟨⟩))
      ⊢ Runs c (heads qkv n h) Q := by
  induction n with
  | zero =>
    intro Q
    unfold heads
    iintro ⟨H1, H2, H3, Hk⟩
    rw [Prog.pure_eq_ret, runs_ret]; imodintro
    iapply Hk
    isplitl [H1]; · iexact H1
    isplitl [H2] <;> iassumption
  | succ n ih =>
    intro Q
    unfold heads head
    rw [runs_bind]
    iintro ⟨H1, H2, H3, Hk⟩
    iapply (ih (Nat.le_of_succ_le h))
    isplitl [H1]; · iexact H1
    isplitl [H2]; · iexact H2
    isplitl [H3]; · iexact H3
    iintro ⟨H1, H2, H3⟩
    rw [runs_bind]
    iapply (runs_putHead_next c qM _ n h 0 qkv)
    isplitl [H1]; · iexact H1
    iintro H1
    rw [runs_bind]
    iapply (runs_putHead_next c kM _ n h 1 qkv)
    isplitl [H2]; · iexact H2
    iintro H2
    iapply (runs_putHead_next c vM _ n h 2 qkv)
    isplitl [H3]; · iexact H3
    iintro H3
    iapply Hk
    isplitl [H1]; · iexact H1
    isplitl [H2] <;> iassumption

/-- With all sixteen heads in place the buffer holds exactly them. -/
theorem heads_all (f g : FVec F S16x128x64 .bf16) (h : ∀ (i : Fin 16) (a : Fin 128) (b : Fin 64), i.val < 16 → f (ix3 i a b) = g (ix3 i a b)) :
    f = g := by
  funext y
  idx_vars y
  exact h _ _ _ y0.isLt

/-! ## The attention's output -/

/-- The attention's output buffer with its first `n` heads in place. -/
def attnHeld (c : Dev nD) (n : ℕ) (o : FVec F S16x128x64 .bf16) : sProp 𝕄 :=
  iprop(∃ f, ⌜∀ (i : Fin 16) (a : Fin 128) (b : Fin 64), i.val < n →
      (attnM : Memref sig .tc .vmem S256x512 .bf16).view.read (Elt F) f
        (ix2 ⟨128 * (i.val / 8) + a.val, attn_val i a⟩ ⟨64 * (i.val % 8) + b.val, attn_val' i b⟩) = o (ix3 i a b)⌝
    ∗ ((attnM : Memref sig .tc .vmem S256x512 .bf16).view.loc (c : Thread nD τ) ↦{fullShare} f))

theorem attnHeld_zero (c : Dev nD) (o : FVec F S16x128x64 .bf16)
    (f : Buf (Elt F) ((attnM : Memref sig .tc .vmem S256x512 .bf16).view.loc (c : Thread nD τ))) :
    ((attnM : Memref sig .tc .vmem S256x512 .bf16).view.loc (c : Thread nD τ) ↦{fullShare} f) ⊢ attnHeld c 0 o := by
  unfold attnHeld
  iintro H
  iexists f
  isplitr
  · ipureintro; intro i a b h; exact absurd h (Nat.not_lt_zero _)
  iexact H

/-- Storing head `n` of the attention's output where the first `n` heads are in place. -/
theorem runs_attnHead (c : Dev nD) (n : ℕ) (h : n < 16) (o : FVec F S16x128x64 .bf16) (Q : PUnit → sProp 𝕄) :
    iprop(attnHeld c n o ∗ (attnHeld c (n + 1) o -∗ Q ⟨⟩)) ⊢ Runs c (attnHead o ⟨n, h⟩) Q := by
  unfold attnHeld attnHead
  rw [runs_bind]
  iintro ⟨⟨%f, %hf, Hm⟩, Hk⟩
  iapply (runs_loadU c); isplitl [Hm]; · iexact Hm
  iintro Hm
  iapply (runs_storeU c); isplitl [Hm]; · iexact Hm
  iintro Hm
  iapply Hk
  iexists _
  isplitr
  swap; · iexact Hm
  ipureintro
  intro i a b hi
  by_cases hin : i = ⟨n, h⟩
  · subst hin
    rw [read_put_in attnM _ f _ _ (ix2 a b) (emb_attn _ a b), attnPay_apply]
  · rw [read_put_out attnM _ f _ _ (fun x hx => hin (by
      idx_vars x
      have h0 := congrArg (fun y : S256x512.Idx => (y 0).val) hx
      have h1 := congrArg (fun y : S256x512.Idx => (y 1).val) hx
      simp at h0 h1
      exact Fin.ext (by simp; omega)))]
    exact hf i a b (by have : i.val ≠ n := fun e => hin (Fin.ext e); omega)

/-- The first `n` heads of the attention's output. -/
theorem runs_attnHeads (c : Dev nD) (o : FVec F S16x128x64 .bf16) (n : ℕ) (h : n ≤ 16) : ∀ (Q : PUnit → sProp 𝕄),
    iprop(attnHeld c 0 o ∗ (attnHeld c n o -∗ Q ⟨⟩)) ⊢ Runs c (attnHeads o n h) Q := by
  induction n with
  | zero =>
    intro Q
    unfold attnHeads
    iintro ⟨H1, Hk⟩
    rw [Prog.pure_eq_ret, runs_ret]; imodintro
    iapply Hk; iexact H1
  | succ n ih =>
    intro Q
    unfold attnHeads
    rw [runs_bind]
    iintro ⟨H1, Hk⟩
    iapply (ih (Nat.le_of_succ_le h))
    isplitl [H1]; · iexact H1
    iintro H1
    iapply (runs_attnHead c n h o)
    isplitl [H1]; · iexact H1
    iexact Hk

/-- With all sixteen heads in place the attention's output is the heads side by side. -/
theorem attn_all (f : FVec F S256x512 .bf16) (o : FVec F S16x128x64 .bf16)
    (h : ∀ (i : Fin 16) (a : Fin 128) (b : Fin 64), i.val < 16 →
      f (ix2 ⟨128 * (i.val / 8) + a.val, attn_val i a⟩ ⟨64 * (i.val % 8) + b.val, attn_val' i b⟩) = o (ix3 i a b)) : f = attnBuf o := by
  funext y
  idx_vars y
  have hi : 8 * (y0.val / 128) + y1.val / 64 < 16 := by omega
  have e := h ⟨8 * (y0.val / 128) + y1.val / 64, hi⟩ ⟨y0.val % 128, by omega⟩ ⟨y1.val % 64, by omega⟩ hi
  have hy : (ix2 ⟨128 * ((8 * (y0.val / 128) + y1.val / 64) / 8) + y0.val % 128, attn_val ⟨_, hi⟩ ⟨_, by omega⟩⟩
      ⟨64 * ((8 * (y0.val / 128) + y1.val / 64) % 8) + y1.val % 64, attn_val' ⟨_, hi⟩ ⟨_, by omega⟩⟩ : S256x512.Idx) = ix2 y0 y1 := by
    idx_ext
  exact (congrArg f hy.symm).trans e

/-! ## A block's slot -/

theorem comm_set (r : Fin 4) : (comm r).view.set = (commM.access (rect4 r)).set := View.set_reshape _ _
theorem part_set (r : Fin 4) : (part r).view.set = (partM.access (rect4 r)).set := View.set_reshape _ _
theorem rs_set (r : Fin 3) : (rs r).view.set = (rsM.access (rect3 r)).set := View.set_reshape _ _

/-- A slot's contents, read at an index. -/
theorem part_read (r : Fin 4) (f : (partM : Memref sig .tc .vmem S4x2x128x512 .bf16).view.ty.Contents (Elt F)) (j : Fin 2) (a : Fin 128) (b : Fin 512) :
    (part r).view.read (Elt F) f (ix3 j a b) = (partM : Memref sig .tc .vmem S4x2x128x512 .bf16).view.read (Elt F) f (ix4 r j a b) := by
  rw [emb_slot]
  show shapeCast S2x128x512 ((partM.access (rect4 r)).read (Elt F) f) shapeCasts_S1x2x128x512_S2x128x512 (ix3 j a b)
    = (partM.access (rect4 r)).read (Elt F) f (ix4 0 j a b)
  generalize (partM.access (rect4 r)).read (Elt F) f = X
  revert X
  show ∀ X : FVec F S1x2x128x512 .bf16, shapeCast S2x128x512 X shapeCasts_S1x2x128x512_S2x128x512 (ix3 j a b) = X (ix4 0 j a b)
  intro X
  pointwise

/-- The rows of a slot lie in the slot. -/
theorem row_subset (r : Fin 4) (j : Fin 2) : (partM.access (rectRow r j)).set ⊆ (part r).view.set := by
  rw [part_set]
  show ((View.whole cc0_scratch1).slice (rectRow r j)).set ⊆ ((View.whole cc0_scratch1).slice (rect4 r)).set
  rw [View.set_slice_whole, View.set_slice_whole]
  intro y hy
  rw [Rect.mem_set_unit] at hy ⊢
  intro a
  have := hy a
  have hj := j.isLt
  revert this
  fin_cases a <;> simp [S1x1x128x512, S1x2x128x512] <;> omega

theorem row_subset' (r : Fin 4) (j : Fin 2) :
    (partM : Memref sig .tc .vmem S4x2x128x512 .bf16).view.setOn (rectRow r j).toLoadRect.set ⊆ (part r).view.set := by
  have h := row_subset r j
  rw [View.set_slice] at h
  exact h

theorem comm_subset (r : Fin 4) :
    (commM : Memref sig .tc .vmem S4x2x128x512 .bf16).view.setOn (rect4 r).toLoadRect.set ⊆ (comm r).view.set := by
  rw [comm_set, View.set_slice]
  exact subset_rfl

theorem part_subset (r : Fin 4) :
    (partM : Memref sig .tc .vmem S4x2x128x512 .bf16).view.setOn (rect4 r).toLoadRect.set ⊆ (part r).view.set := by
  rw [part_set, View.set_slice]
  exact subset_rfl

theorem rs_subset (r : Fin 3) :
    (rsM : Memref sig .tc .vmem S3x2x128x512 .bf16).view.setOn (rect3 r).toLoadRect.set ⊆ (rs r).view.set := by
  rw [rs_set, View.set_slice]
  exact subset_rfl

/-- A slot with its first `n` batch elements in place. -/
def rowsHeld (c : Dev nD) (r : Fin 4) (n : ℕ) (p : FVec F S256x512 .bf16) : sProp 𝕄 :=
  iprop(∃ f, ⌜∀ (j : Fin 2) (a : Fin 128) (b : Fin 512), j.val < n → (part r).view.read (Elt F) f (ix3 j a b) = rowsBuf p (ix3 j a b)⌝
    ∗ ((partM : Memref sig .tc .vmem S4x2x128x512 .bf16).view.loc (c : Thread nD τ) ↦[(part r).view.set]{fullShare} f))

/-- What a slot's batch elements are after one more is stored. -/
theorem rows_next (r : Fin 4) (n : ℕ) (h : n < 2) (p : FVec F S256x512 .bf16) (f : (partM : Memref sig .tc .vmem S4x2x128x512 .bf16).view.ty.Contents (Elt F))
    (hf : ∀ (j : Fin 2) (a : Fin 128) (b : Fin 512), j.val < n → (part r).view.read (Elt F) f (ix3 j a b) = rowsBuf p (ix3 j a b)) :
    ∀ (j : Fin 2) (a : Fin 128) (b : Fin 512), j.val < n + 1 →
      (part r).view.read (Elt F) ((partM.access (rectRow r ⟨n, h⟩)).write (Elt F) f (rowPay ⟨n, h⟩ p) Finset.univ) (ix3 j a b) = rowsBuf p (ix3 j a b) := by
  intro j a b hj
  rw [part_read]
  by_cases hin : j = ⟨n, h⟩
  · subst hin
    rw [read_put_in partM _ f _ _ (ix4 0 0 a b) (emb_row _ _ a b), rowPay_apply]
  · rw [read_put_out partM _ f _ _ (fun x hx => hin (by
      idx_vars x
      have h0 := congrArg (fun y : S4x2x128x512.Idx => (y 1).val) hx
      simp at h0
      exact Fin.ext h0)), ← part_read]
    exact hf j a b (by have : j.val ≠ n := fun e => hin (Fin.ext e); omega)

/-- Storing one batch element of a block's partial result where the earlier ones are in place. -/
theorem runs_partRow (c : Dev nD) (r : Fin 4) (n : ℕ) (h : n < 2) (p : FVec F S256x512 .bf16) (Q : PUnit → sProp 𝕄) :
    iprop(rowsHeld c r n p ∗ (rowsHeld c r (n + 1) p -∗ Q ⟨⟩)) ⊢ Runs c (partRow r p ⟨n, h⟩) Q := by
  unfold rowsHeld partRow
  rw [runs_bind]
  iintro ⟨⟨%f, %hf, Hm⟩, Hk⟩
  iapply (runs_load c (row_subset' r ⟨n, h⟩)); isplitl [Hm]; · iexact Hm
  iintro Hm
  iapply (runs_store c (row_subset r ⟨n, h⟩)); isplitl [Hm]; · iexact Hm
  iintro Hm
  iapply Hk
  iexists _
  isplitr
  swap; · iexact Hm
  ipureintro
  exact rows_next r n h p f hf

/-! ## The loads -/

/-- Block `s` of the activations loaded: its contents with a leading unit axis. -/
theorem runs_loadComm (c : Dev nD) (r : Fin 4) (q : PosShare TreeShare) (X : FVec F S2x128x512 .bf16)
    {hl : (commM : Memref sig .tc .vmem S4x2x128x512 .bf16).view.LoadsAt (rect4 r).toLoadRect} (Q : FVec F S1x2x128x512 .bf16 → sProp 𝕄) :
    iprop(block c (comm r) q X ∗ (block c (comm r) q X -∗ Q (shapeCast S1x2x128x512 X shapeCasts_S2x128x512_S1x2x128x512)))
      ⊢ Runs c (Prog.lift (.load commM (rect4 r).toLoadRect hl)) Q := by
  unfold block owns
  iintro ⟨⟨%f, %hf, Hx⟩, Hk⟩
  iapply (runs_load c (comm_subset r)); isplitl [Hx]; · iexact Hx
  iintro Hx
  have h : commM.view.readAt (Elt F) (rect4 r).toLoadRect f = shapeCast S1x2x128x512 X shapeCasts_S2x128x512_S1x2x128x512 := by
    rw [← hf]
    exact (shapeCast_shapeCast _ shapeCasts_S1x2x128x512_S2x128x512 _).symm
  rw [h]
  iapply Hk
  iexists f
  isplitr; · ipureintro; exact hf
  iexact Hx

/-! ## The whole block -/

/-- The buffers of a block's work that only hold what the block itself puts there. -/
def work (c : Dev nD) : sProp 𝕄 :=
  iprop(some' (F := F) c cc0_scratch4 ∗ some' (F := F) c cc0_scratch5 ∗ some' (F := F) c cc0_scratch6 ∗ some' (F := F) c cc0_scratch7)

/-- A slot with both batch elements in place holds the block's partial result. -/
theorem rowsHeld_all (c : Dev nD) (r : Fin 4) (p : FVec F S256x512 .bf16) : rowsHeld c r 2 p ⊢ block c (part r) fullShare (rowsBuf p) := by
  unfold rowsHeld block owns
  iintro ⟨%f, %hf, Hm⟩
  iexists f
  isplitr
  · ipureintro
    funext y
    idx_vars y
    exact hf _ _ _ y0.isLt
  iexact Hm

theorem rowsHeld_zero (c : Dev nD) (r : Fin 4) (p : FVec F S256x512 .bf16) : anyBlock (F := F) c (part r) ⊢ rowsHeld c r 0 p := by
  unfold rowsHeld anyBlock block owns
  iintro ⟨%X, %f, %hf, Hm⟩
  iexists f
  isplitr
  · ipureintro; intro j a b h; exact absurd h (Nat.not_lt_zero _)
  iexact Hm

/-- All sixteen heads loaded. -/
theorem runs_getHeads (c : Dev nD) (m : Memref sig .tc .vmem S16x128x64 .bf16) (g : FVec F S16x128x64 .bf16)
    {hl : m.view.LoadsAt rectAllH.toLoadRect} (Q : FVec F S16x128x64 .bf16 → sProp 𝕄) :
    iprop(headsHeld c m 16 g ∗ (headsHeld c m 16 g -∗ Q g)) ⊢ Runs c (Prog.lift (.load m rectAllH.toLoadRect hl)) Q := by
  unfold headsHeld
  iintro ⟨⟨%f, %hf, Hm⟩, Hk⟩
  iapply (runs_loadU c); isplitl [Hm]; · iexact Hm
  iintro Hm
  have e : m.view.readAt (Elt F) rectAllH.toLoadRect f = g := by
    funext y
    have hy : rectAllH.emb y = y := by
      idx_vars y
      idx_ext <;> simp
    have h1 : m.view.readAt (Elt F) rectAllH.toLoadRect f y = m.view.read (Elt F) f (rectAllH.emb y) := rfl
    rw [h1, hy]
    idx_vars y
    exact hf _ _ _ y0.isLt
  rw [e]
  iapply Hk
  iexists f
  isplitr; · ipureintro; exact hf
  iexact Hm

/-- The attention's output loaded. -/
theorem runs_getAttn (c : Dev nD) (o : FVec F S16x128x64 .bf16)
    {hl : (attnM : Memref sig .tc .vmem S256x512 .bf16).view.LoadsAt rectAllA.toLoadRect} (Q : FVec F S256x512 .bf16 → sProp 𝕄) :
    iprop(attnHeld c 16 o ∗ (attnHeld c 16 o -∗ Q (attnBuf o))) ⊢ Runs c (Prog.lift (.load attnM rectAllA.toLoadRect hl)) Q := by
  unfold attnHeld
  iintro ⟨⟨%f, %hf, Hm⟩, Hk⟩
  iapply (runs_loadU c); isplitl [Hm]; · iexact Hm
  iintro Hm
  have e : attnM.view.readAt (Elt F) rectAllA.toLoadRect f = attnBuf o :=
    (Memref.readAt_unit_zero (Elt F) cc0_scratch7 hz2 _ f).trans (attn_all f o hf)
  rw [e]
  iapply Hk
  iexists f
  isplitr; · ipureintro; exact hf
  iexact Hm

theorem headsHeld_q (c : Dev nD) (n : ℕ) (g : FVec F S16x128x64 .bf16) : headsHeld c qM n g ⊢ some' (F := F) c cc0_scratch4 := by
  unfold headsHeld some'
  iintro ⟨%f, %hf, Hm⟩
  iexists f; iexact Hm
theorem headsHeld_k (c : Dev nD) (n : ℕ) (g : FVec F S16x128x64 .bf16) : headsHeld c kM n g ⊢ some' (F := F) c cc0_scratch5 := by
  unfold headsHeld some'
  iintro ⟨%f, %hf, Hm⟩
  iexists f; iexact Hm
theorem headsHeld_v (c : Dev nD) (n : ℕ) (g : FVec F S16x128x64 .bf16) : headsHeld c vM n g ⊢ some' (F := F) c cc0_scratch6 := by
  unfold headsHeld some'
  iintro ⟨%f, %hf, Hm⟩
  iexists f; iexact Hm
theorem attnHeld_some (c : Dev nD) (n : ℕ) (o : FVec F S16x128x64 .bf16) : attnHeld c n o ⊢ some' (F := F) c cc0_scratch7 := by
  unfold attnHeld some'
  iintro ⟨%f, %hf, Hm⟩
  iexists f; iexact Hm

theorem some_q (c : Dev nD) (g : FVec F S16x128x64 .bf16) : some' (F := F) c cc0_scratch4 ⊢ headsHeld c qM 0 g := by
  unfold some'
  iintro ⟨%f, Hm⟩
  iapply (headsHeld_zero c qM g f); iexact Hm
theorem some_k (c : Dev nD) (g : FVec F S16x128x64 .bf16) : some' (F := F) c cc0_scratch5 ⊢ headsHeld c kM 0 g := by
  unfold some'
  iintro ⟨%f, Hm⟩
  iapply (headsHeld_zero c kM g f); iexact Hm
theorem some_v (c : Dev nD) (g : FVec F S16x128x64 .bf16) : some' (F := F) c cc0_scratch6 ⊢ headsHeld c vM 0 g := by
  unfold some'
  iintro ⟨%f, Hm⟩
  iapply (headsHeld_zero c vM g f); iexact Hm
theorem some_attn (c : Dev nD) (o : FVec F S16x128x64 .bf16) : some' (F := F) c cc0_scratch7 ⊢ attnHeld c 0 o := by
  unfold some'
  iintro ⟨%f, Hm⟩
  iapply (attnHeld_zero c o f); iexact Hm

/-- The three weights side by side loaded. -/
theorem runs_getW (c : Dev nD) (w : FVec F S512x1536 .bf16)
    {hl : (wqkvM : Memref sig .tc .vmem S512x1536 .bf16).view.LoadsAt rectAllW.toLoadRect} (Q : FVec F S512x1536 .bf16 → sProp 𝕄) :
    iprop(holds (F := F) c cc0_scratch3 w ∗ (holds (F := F) c cc0_scratch3 w -∗ Q w)) ⊢ Runs c (Prog.lift (.load wqkvM rectAllW.toLoadRect hl)) Q := by
  iintro ⟨Hm, Hk⟩
  iapply (runs_loadU c); isplitl [Hm]; · iexact Hm
  iintro Hm
  have e : wqkvM.view.readAt (Elt F) rectAllW.toLoadRect w = w := Memref.readAt_unit_zero (Elt F) cc0_scratch3 hz2 _ w
  rw [e]
  iapply Hk
  iexact Hm

attribute [local irreducible] heads attnHeads headPay attnPay rowPay qkvOf headBuf attnBuf rowsBuf partRow headsHeld attnHeld rowsHeld some' in
/-- The work on block `r`: from the block's activations and the three weights, the block's partial result in its slot. -/
theorem runs_chunk (c : Dev nD) (wo : FVec F S512x512 .bf16) (w : FVec F S512x1536 .bf16) (r : Fin 4) (q : PosShare TreeShare)
    (X : FVec F S2x128x512 .bf16) (Q : PUnit → sProp 𝕄) :
    iprop(block c (comm r) q X ∗ holds (F := F) c cc0_scratch3 w ∗ work (F := F) c ∗ anyBlock (F := F) c (part r)
        ∗ ((block c (comm r) q X ∗ holds (F := F) c cc0_scratch3 w ∗ work (F := F) c ∗ block c (part r) fullShare (partOf wo w X)) -∗ Q ⟨⟩))
      ⊢ Runs c (chunk wo r) Q := by
  unfold chunk work
  iintro ⟨Hx, Hw, ⟨H1, H2, H3, H4⟩, Hp, HQ⟩
  rw [runs_bind]
  iapply (runs_loadComm c r q X); isplitl [Hx]; · iexact Hx
  iintro Hx
  rw [runs_bind]
  iapply (runs_getW c w); isplitl [Hw]; · iexact Hw
  iintro Hw
  rw [pay6_eq _ X w (shapeCast_shapeCast _ _ _)]
  rw [runs_bind]
  iapply (runs_heads c (qkvOf X w) 16 (Nat.le_refl 16))
  isplitl [H1]; · iapply (some_q c _); iexact H1
  isplitl [H2]; · iapply (some_k c _); iexact H2
  isplitl [H3]; · iapply (some_v c _); iexact H3
  iintro ⟨H1, H2, H3⟩
  rw [runs_bind]
  iapply (runs_getHeads c qM _); isplitl [H1]; · iexact H1
  iintro H1
  rw [runs_bind]
  iapply (runs_getHeads c kM _); isplitl [H2]; · iexact H2
  iintro H2
  rw [runs_bind]
  iapply (runs_getHeads c vM _); isplitl [H3]; · iexact H3
  iintro H3
  rw [runs_bind]
  iapply (runs_attnHeads c _ 16 (Nat.le_refl 16)); isplitl [H4]; · iapply (some_attn c _); iexact H4
  iintro H4
  rw [runs_bind]
  iapply (runs_getAttn c _); isplitl [H4]; · iexact H4
  iintro H4
  rw [runs_bind]
  iapply (runs_partRow c r 0 (by decide)); isplitl [Hp]; · iapply (rowsHeld_zero c r _); iexact Hp
  iintro Hp
  iapply (runs_partRow c r 1 (by decide)); isplitl [Hp]; · iexact Hp
  iintro Hp
  iapply HQ
  isplitl [Hx]; · iexact Hx
  isplitl [Hw]; · iexact Hw
  isplitl [H1 H2 H3 H4]
  · isplitl [H1]; · iapply (headsHeld_q c); iexact H1
    isplitl [H2]; · iapply (headsHeld_k c); iexact H2
    isplitl [H3]; · iapply (headsHeld_v c); iexact H3
    iapply (attnHeld_some c); iexact H4
  iapply (rowsHeld_all c r _); iexact Hp

end Cert.Proof
-- ==== Proof.Protocol.lean ====
/-
  The exchange between the four devices: which semaphores it uses, what each wait of it hands over, what a device owes at
  launch, and the levels by which no device waits for one that waits for it.

  A device has sixteen cells: its barrier, the three of its activations' copies sent and the four received, the four of the
  partial results sent and the four received (three of these are never used). Every used cell has one round: the barrier one
  of three signals, the others one of a block's credit.
-/
module

public import proofs.«01_k».proof.Proof.Chunk
public import Idealize.ShloMosaic.Lib.MemrefSat

@[expose] public section

set_option maxRecDepth 16384

noncomputable section

namespace Cert.Proof

open Cert.KernelIdeal
open Cert.KernelIdeal.Facts₀ Cert.KernelIdeal.Facts
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The devices around a device -/

set_option backward.proofsInPublic true in
/-- The device `s` places after `c`. -/
def peer (s : Fin 4) (c : Dev nD) : Dev nD := ⟨(c.val + s.val) % 4, Nat.mod_lt _ (by decide)⟩

theorem peer_peer : ∀ (a b : Fin 4) (c : Dev nD), peer a (peer b c) = peer (a + b) c := by decide
theorem peer_zero : ∀ c : Dev nD, peer 0 c = c := by decide

/-- Going `s` places on, as a permutation of the devices. -/
def around (s : Fin 4) : Dev nD ≃ Dev nD where
  toFun := peer s
  invFun := peer (-s)
  left_inv c := by rw [peer_peer, neg_add_cancel, peer_zero]
  right_inv c := by rw [peer_peer, add_neg_cancel, peer_zero]

/-! ## The cells -/

/-- A device's cells, listed. -/
def csem : Fin 16 → SemLoc sig
  | 0 => .reg barS
  | 1 => .dma (agSend 0) | 2 => .dma (agSend 1) | 3 => .dma (agSend 2)
  | 4 => .dma (agRecv 0) | 5 => .dma (agRecv 1) | 6 => .dma (agRecv 2) | 7 => .dma (agRecv 3)
  | 8 => .dma (rsSend 0) | 9 => .dma (rsSend 1) | 10 => .dma (rsSend 2) | 11 => .dma (rsSend 3)
  | 12 => .dma (rsRecv 0) | 13 => .dma (rsRecv 1) | 14 => .dma (rsRecv 2) | _ => .dma (rsRecv 3)

/-- Cell `k` of device `c`. -/
abbrev kcell (c : Dev nD) (k : Fin 16) : GSem nD τ sig := ((c : Thread nD τ), csem k)

/-- The cell a semaphore is, if it is one of the sixteen. -/
def code (s : SemLoc sig) : Option (Fin 16) := (List.finRange 16).find? fun k => decide (csem k = s)

theorem code_csem : ∀ k, code (csem k) = some k := by decide

theorem csem_inj : Function.Injective csem := fun a b h => by
  have := congrArg code h
  rw [code_csem, code_csem] at this
  exact Option.some.inj this

theorem kcell_inj {c c' : Dev nD} {k k' : Fin 16} (h : kcell c k = kcell c' k') : c = c' ∧ k = k' :=
  ⟨congrArg (fun g : GSem nD τ sig => g.1.1) h, csem_inj (congrArg Prod.snd h)⟩

/-- The credit of a block's copy. -/
abbrev N : ℕ := (comm 0).view.dmaCredit
theorem N_pos : 0 < N := View.dmaCredit_pos _ (by decide)

/-! ## What the waits hand over -/

variable (X : Dev nD → FVec F S2x128x512 .bf16) (P : Dev nD → Fin 4 → FVec F S2x128x512 .bf16)

/-- The shares of its own activations a device lends to its three copies. -/
def lent : Fin 3 → PosShare TreeShare
  | 0 => fullShare.left.left
  | 1 => fullShare.left.right
  | 2 => fullShare.right.left

/-- What a signal hands device `c`: the block of the activations and the block of the partial results that `c` will write
on the signalling device. -/
def barPay (c : Dev nD) : Fin 3 → sProp 𝕄
  | 0 => iprop(anyBlock (F := F) (peer 1 c) (comm 3) ∗ anyBlock (F := F) (peer 1 c) (rs 0))
  | 1 => iprop(anyBlock (F := F) (peer 3 c) (comm 1) ∗ anyBlock (F := F) (peer 3 c) (rs 1))
  | 2 => iprop(anyBlock (F := F) (peer 2 c) (comm 2) ∗ anyBlock (F := F) (peer 2 c) (rs 2))

/-- What cell `k` hands device `c`: the barrier the blocks to write, a sending cell what was lent, a receiving cell the
block that has arrived. -/
def pay (c : Dev nD) (k : Fin 16) (d : Fin 3) : sProp 𝕄 := match k with
  | 0 => barPay (F := F) c d
  | 1 => block c (comm 0) (lent 0) (X c)
  | 2 => block c (comm 0) (lent 1) (X c)
  | 3 => block c (comm 0) (lent 2) (X c)
  | 5 => block c (comm 1) fullShare (X (peer 1 c))
  | 6 => block c (comm 2) fullShare (X (peer 2 c))
  | 7 => block c (comm 3) fullShare (X (peer 3 c))
  | 8 => block c (part 1) fullShare (P c 1)
  | 9 => block c (part 3) fullShare (P c 3)
  | 10 => block c (part 2) fullShare (P c 2)
  | 12 => block c (rs 0) fullShare (P (peer 3 c) 1)
  | 13 => block c (rs 1) fullShare (P (peer 1 c) 3)
  | 14 => block c (rs 2) fullShare (P (peer 2 c) 2)
  | _ => iprop(emp)

/-- The duties of a cell's round. -/
def duty (k : Fin 16) : Finset (Fin 3) := if k = 0 then Finset.univ else if k = 4 ∨ k = 11 ∨ k = 15 then ∅ else {0}

/-- What a duty of cell `k` adds to it. -/
def amt (k : Fin 16) : ℕ := if k = 0 then 1 else N

theorem amt_pos (k : Fin 16) : 0 < amt k := by
  unfold amt; split
  · exact Nat.one_pos
  · exact N_pos

/-- The exchange's schedule. -/
def Rd : Rounds.Schedule (GSem nD τ sig) (Fin 3) 𝕄 where
  duties g r := if r = 0 then (code g.2).elim ∅ duty else ∅
  unitless _ := False
  amount g _ _ := (code g.2).elim 1 amt
  payload g _ d := (code g.2).elim iprop(emp) fun k => pay X P g.1.1 k d
  amount_pos g _ _ _ := by
    cases code g.2 with
    | none => exact Nat.one_pos
    | some k => exact amt_pos k

omit [FloatOps F] in
instance anyBlock_storable (c : Dev nD) (m : Memref sig .tc .vmem S2x128x512 .bf16) :
    BI.Storable (upEmb : UEmb _ 𝕄) (anyBlock (F := F) c m) := by unfold anyBlock; infer_instance

omit [FloatOps F] in
instance barPay_storable (c : Dev nD) (d : Fin 3) : BI.Storable (upEmb : UEmb _ 𝕄) (barPay (F := F) c d) := by
  unfold barPay; split <;> infer_instance

omit [FloatOps F] in
instance pay_storable (c : Dev nD) (k : Fin 16) (d : Fin 3) : BI.Storable (upEmb : UEmb _ 𝕄) (pay X P c k d) := by
  unfold pay; split <;> infer_instance

omit [FloatOps F] in
instance Rd_payload_storable (g : GSem nD τ sig) (r : ℕ) (d : Fin 3) : BI.Storable (upEmb : UEmb _ 𝕄) ((Rd X P).payload g r d) := by
  show BI.Storable upEmb ((code g.2).elim iprop(emp) fun k => pay X P g.1.1 k d)
  cases code g.2 with
  | none => show BI.Storable upEmb iprop(emp); infer_instance
  | some k => show BI.Storable upEmb (pay X P g.1.1 k d); infer_instance

omit [FloatOps F] in
theorem duties_cell (c : Dev nD) (k : Fin 16) : (Rd X P).duties (kcell c k) 0 = duty k := by
  dsimp only [Rd]; rw [if_pos rfl, code_csem]; rfl

omit [FloatOps F] in
theorem duties_later (g : GSem nD τ sig) : ∀ r, 1 ≤ r → (Rd X P).duties g r = ∅ :=
  fun r hr => by dsimp only [Rd]; rw [if_neg (by omega)]

omit [FloatOps F] in
theorem duties_none (c : Dev nD) (k : Fin 16) (h : duty k = ∅) : ∀ r, 0 ≤ r → (Rd X P).duties (kcell c k) r = ∅ :=
  fun r hr => by
    rcases Nat.eq_zero_or_pos r with rfl | hr
    · rw [duties_cell, h]
    · exact duties_later X P _ r hr

omit [FloatOps F] in
theorem amount_cell (c : Dev nD) (k : Fin 16) (d : Fin 3) : (Rd X P).amount (kcell c k) 0 d = amt k := by
  dsimp only [Rd]; rw [code_csem]; rfl

omit [FloatOps F] in
theorem payload_cell (c : Dev nD) (k : Fin 16) (d : Fin 3) : (Rd X P).payload (kcell c k) 0 d = pay X P c k d := by
  dsimp only [Rd]; rw [code_csem]; rfl

/-- The credit a cell receives over its round. -/
def credit (k : Fin 16) : ℕ := (duty k).card * amt k

omit [FloatOps F] in
theorem expect_cell (c : Dev nD) (k : Fin 16) : (Rd X P).expect (kcell c k) 0 = credit k := by
  unfold Schedule.expect Schedule.amountOf
  rw [duties_cell, Finset.sum_congr rfl fun d _ => amount_cell X P c k d, Finset.sum_const, smul_eq_mul, credit]

omit [FloatOps F] in
theorem rest_cell (c : Dev nD) (k : Fin 16) :
    bigSep ((Rd X P).duties (kcell c k) 0 \ ∅) (fun d => (Rd X P).payload (kcell c k) 0 d) = bigSep (duty k) fun d => pay X P c k d := by
  rw [Finset.sdiff_empty, duties_cell]
  exact bigSep_congr fun d _ => payload_cell X P c k d

/-! ## What a device owes, and the levels -/

/-- A device's debts at launch, the last one paid first: how many places on the device is, and which of its cells. -/
def debt : ℕ → Fin 4 × Fin 16
  | 0 => (2, 14) | 1 => (1, 12) | 2 => (3, 13)
  | 3 => (2, 6) | 4 => (1, 7) | 5 => (3, 5)
  | 6 => (2, 0) | 7 => (1, 0) | _ => (3, 0)

/-- What device `c` owes with `n` debts left. -/
def Orem (c : Dev nD) : ℕ → CellTallies nD τ sig Unit
  | 0 => 0
  | n + 1 => Orem c n + tallyAt (kcell (peer (debt n).1 c) (debt n).2) () (amt (debt n).2)

theorem Orem_pos {c : Dev nD} {n : ℕ} {g : GSem nD τ sig} {u : Unit} (h : 0 < Orem c n g u) :
    ∃ j, j < n ∧ g = kcell (peer (debt j).1 c) (debt j).2 := by
  induction n with
  | zero => exact absurd h (Nat.lt_irrefl 0)
  | succ n ih =>
    unfold Orem at h
    rw [Pi.add_apply, Finsupp.add_apply, tallyAt_apply] at h
    by_cases hg : g = kcell (peer (debt n).1 c) (debt n).2 ∧ u = ()
    · exact ⟨n, Nat.lt_succ_self n, hg.1⟩
    · rw [if_neg hg, Nat.add_zero] at h
      obtain ⟨j, hj, e⟩ := ih h
      exact ⟨j, Nat.lt_succ_of_lt hj, e⟩

def L (g : GSem nD τ sig) : Finset Unit := if g.1.2 = .tc then {()} else ∅

theorem L_of_ne (g : GSem nD τ sig) (h : g.1.2 ≠ .tc) : L g = ∅ := if_neg h
theorem L_tc (c : Dev nD) (sm : SemLoc sig) : L ((c : Thread nD τ), sm) = {()} := if_pos rfl

/-- A cell's level: the barriers below the activations' receiving cells, those below the partial results'. -/
def lvl (k : Fin 16) : ℕ := if k = 0 then 1 else if 4 ≤ k ∧ k ≤ 7 then 2 else if 12 ≤ k then 3 else 0

/-- A semaphore's level; one that is no cell of the exchange is at 0. -/
def slv (s : SemLoc sig) : ℕ := (code s).elim 0 lvl
def lv (g : GSem nD τ sig) (_ : Unit) : ℕ := slv g.2

theorem slv_csem (k : Fin 16) : slv (csem k) = lvl k := by unfold slv; rw [code_csem]; rfl

omit [FloatOps F] in
/-- With `n` debts left, all of them above a semaphore's level, a device may wait on the semaphore. -/
theorem mayWait (c : Dev nD) (s : SemLoc sig) (n : ℕ) (h : ∀ j, j < n → slv s < lvl (debt j).2) :
    (levAts L lv : sProp 𝕄) ⊢ MayWait (c : Thread nD τ) s () (Orem c n) :=
  MayOwe.of_cut (L := L) (lev := lv) (slv s) (fun p hp => by rw [Finset.mem_singleton.mp hp, L_tc]; exact Finset.mem_singleton_self _)
    (fun g u hg => by obtain ⟨j, hj, rfl⟩ := Orem_pos hg; rw [L_tc]; exact Finset.mem_singleton_self _)
    (fun p hp => by rw [Finset.mem_singleton.mp hp]; exact le_refl _)
    (fun g u hg => by
      obtain ⟨j, hj, rfl⟩ := Orem_pos hg
      show slv s < slv (csem (debt j).2)
      rw [slv_csem]; exact h j hj)

/-! ## What the devices share, and the tokens a device pays with -/

/-- Every cell's invariant, under the names `K`, and that every cell is at its round. -/
def records (K : Dev nD × Fin 16 → ℕ) : sProp 𝕄 :=
  iprop((bigSep Finset.univ fun ck : Dev nD × Fin 16 => cellInv ER (Rd X P) (K ck) (kcell ck.1 ck.2))
    ∗ bigSep Finset.univ fun ck : Dev nD × Fin 16 => reached ER (kcell ck.1 ck.2) 0)

instance records_persistent (K : Dev nD × Fin 16 → ℕ) : BI.Persistent (records X P K) := by unfold records; infer_instance

omit [FloatOps F] in
theorem inv_at (K : Dev nD × Fin 16 → ℕ) (c : Dev nD) (k : Fin 16) : records X P K ⊢ cellInv ER (Rd X P) (K (c, k)) (kcell c k) := by
  have h : (bigSep Finset.univ fun ck : Dev nD × Fin 16 => (cellInv ER (Rd X P) (K ck) (kcell ck.1 ck.2) : sProp 𝕄))
      ⊢ cellInv ER (Rd X P) (K (c, k)) (kcell c k) := bigSep_elim (Finset.mem_univ (c, k))
  unfold records
  iintro ⟨H, -⟩
  iapply h
  iexact H

omit [FloatOps F] in
theorem reached_at (K : Dev nD × Fin 16 → ℕ) (c : Dev nD) (k : Fin 16) : records X P K ⊢ reached ER (kcell c k) 0 := by
  have h : (bigSep Finset.univ fun ck : Dev nD × Fin 16 => (reached ER (kcell ck.1 ck.2) 0 : sProp 𝕄))
      ⊢ reached ER (kcell c k) 0 := bigSep_elim (Finset.mem_univ (c, k))
  unfold records
  iintro ⟨-, H⟩
  iapply h
  iexact H

/-- The fifteen tokens a device pays with: how many places on the device paid is, which of its cells, which duty. -/
def tk : Fin 15 → Fin 4 × Fin 16 × Fin 3
  | 0 => (3, 0, 0) | 1 => (1, 0, 1) | 2 => (2, 0, 2)
  | 3 => (0, 1, 0) | 4 => (0, 2, 0) | 5 => (0, 3, 0)
  | 6 => (3, 5, 0) | 7 => (1, 7, 0) | 8 => (2, 6, 0)
  | 9 => (0, 8, 0) | 10 => (0, 9, 0) | 11 => (0, 10, 0)
  | 12 => (1, 12, 0) | 13 => (3, 13, 0) | 14 => (2, 14, 0)

/-- Device `c`'s token `j`. -/
def tok (c : Dev nD) (j : Fin 15) : sProp 𝕄 := dutyTok ER (kcell (peer (tk j).1 c) (tk j).2.1) 0 (tk j).2.2

end Cert.Proof
-- ==== Proof.Steps.lean ====
/-
  The exchange's operations, each from what it takes to what it gives: a signal to a peer's barrier, a copy into a peer's
  block, a wait for a cell's round (the cell closed with it).
-/
module

public import proofs.«01_k».proof.Proof.Protocol

@[expose] public section

set_option maxRecDepth 16384

noncomputable section

namespace Cert.Proof

open Cert.KernelIdeal
open Cert.KernelIdeal.Facts₀ Cert.KernelIdeal.Facts
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → FVec F S2x128x512 .bf16) (P : Dev nD → Fin 4 → FVec F S2x128x512 .bf16) (K : Dev nD × Fin 16 → ℕ)

/-- Device `c` has `n` debts left, whatever it has waited for. -/
def owing (c : Dev nD) (n : ℕ) : sProp 𝕄 := iprop(∃ W, owes (c : Thread nD τ) (Orem c n) W)

theorem pay_bar (c : Dev nD) (d : Fin 3) : pay X P c 0 d = barPay (F := F) c d := rfl

/-- A signal to the barrier of the device `o` places on: debt `n` and token `j` spent, the signal's blocks handed over. -/
theorem runs_signal (c dst : Dev nD) (n : ℕ) (o : Fin 4) (j : Fin 15) (d : Fin 3) (hn : debt n = (o, 0)) (hj : tk j = (o, 0, d))
    (hdst : dst = peer o c) (Q : PUnit → sProp 𝕄) :
    iprop(records X P K ∗ owing (F := F) c (n + 1) ∗ tok (F := F) c j ∗ barPay (F := F) (peer o c) d ∗ (owing (F := F) c n -∗ Q ⟨⟩))
      ⊢ Runs c (semSignalWord dst barS 1#32) Q := by
  subst hdst
  unfold semSignalWord owing tok
  iintro ⟨#HR, ⟨%W, HO⟩, Ht, Hp, HQ⟩
  rw [hj]
  have hO : Orem c (n + 1) = Orem c n + tallyAt (kcell (peer o c) 0) () 1 := by
    rw [Orem, hn]; rfl
  iapply (Rounds.wp_signal 𝒱₀ ER (Rd X P) (c : Thread nD τ) none (dst := (peer o c : Thread nD τ)) (sem := barS) (κ := K (peer o c, 0)) (r := 0)
      (d := d) (k' := 1) (by rw [show ((peer o c : Thread nD τ), SemLoc.reg barS) = kcell (peer o c) 0 from rfl, duties_cell]; exact Finset.mem_univ d)
      (by rw [show ((peer o c : Thread nD τ), SemLoc.reg barS) = kcell (peer o c) 0 from rfl, amount_cell]; rfl) () (Orem c n) hO) $$ [HO Ht Hp]
  · isplitr; · iapply (inv_at X P K (peer o c) 0); iexact HR
    isplitl [HO]; · iexact HO
    isplitl [Ht]; · iexact Ht
    isplitl [Hp]
    · rw [show ((peer o c : Thread nD τ), SemLoc.reg barS) = kcell (peer o c) 0 from rfl, payload_cell, pay_bar]; iexact Hp
    iapply (reached_at X P K (peer o c) 0); iexact HR
  iintro HO
  rw [wp_ret]; imodintro
  iapply HQ
  iexists W; iexact HO

/-- A block of a peer written by a copy reads what the copied block reads. -/
theorem landed (c' : Dev nD) (m : Memref sig .tc .vmem S2x128x512 .bf16) (fd : Buf (Elt F) (m.view.loc (c' : Thread nD τ)))
    (Y : FVec F S2x128x512 .bf16) :
    (m.view.loc (c' : Thread nD τ) ↦[m.view.set]{fullShare} (m.view.write (Elt F) fd Y Finset.univ)) ⊢ block (F := F) c' m fullShare Y := by
  unfold block owns
  iintro H
  iexists _
  isplitr
  swap; · iexact H
  ipureintro
  exact View.read_write_univ _ _

/-- A copy between regions held by their elements, its two cells named by their semaphores. -/
theorem wp_send (c dst : Dev nD) (src tgt : Memref sig .tc .vmem S2x128x512 .bf16) (sS sR : DmaSem sig) (κ₁ κ₂ : ℕ)
    (O O' : CellTallies nD τ sig Unit) (hO : O' = O + tallyAt ((dst : Thread nD τ), SemLoc.dma sR) () N) (W : Waits sig Unit)
    (hd₁ : 0 ∈ (Rd X P).duties ((c : Thread nD τ), .dma sS) 0) (hd₂ : 0 ∈ (Rd X P).duties ((dst : Thread nD τ), .dma sR) 0)
    (ha₁ : (Rd X P).amount ((c : Thread nD τ), .dma sS) 0 0 = N) (ha₂ : (Rd X P).amount ((dst : Thread nD τ), .dma sR) 0 0 = N)
    (hN : tgt.view.amount (.dma sR) = N) (q : PosShare TreeShare)
    (fs : Buf (Elt F) (src.view.loc (c : Thread nD τ))) (fd : Buf (Elt F) (tgt.view.loc (dst : Thread nD τ)))
    (p₁ : (src.view.loc (c : Thread nD τ) ↦[src.view.set]{q} fs) ⊢ (Rd X P).payload ((c : Thread nD τ), .dma sS) 0 0)
    (p₂ : (tgt.view.loc (dst : Thread nD τ) ↦[tgt.view.set]{fullShare} (tgt.view.write (Elt F) fd (src.view.read (Elt F) fs) Finset.univ))
      ⊢ (Rd X P).payload ((dst : Thread nD τ), .dma sR) 0 0)
    {hsc : tgt.view.ref.isScScratch = false} {hsrc : src.view.WordExact} {hdst' : tgt.view.WordExact}
    {hsem : DmaTarget.Typed .vmem (.dma sR) (.remote (Dev.tc dst : Thread nD τ) tgt (.dma sS) hsc)}
    {α : Type} {Q : α → sProp 𝕄} {k : PUnit → Prog (TpuEff nD τ sig (Elt F) Λ₀ .tc) α} :
    iprop(cellInv ER (Rd X P) κ₁ ((c : Thread nD τ), .dma sS) ∗ cellInv ER (Rd X P) κ₂ ((dst : Thread nD τ), .dma sR)
          ∗ (src.view.loc (c : Thread nD τ) ↦[src.view.set]{q} fs) ∗ (tgt.view.loc (dst : Thread nD τ) ↦[tgt.view.set]{fullShare} fd)
          ∗ owes (c : Thread nD τ) O' W
          ∗ dutyTok ER ((c : Thread nD τ), .dma sS) 0 0 ∗ reached ER ((c : Thread nD τ), .dma sS) 0
          ∗ dutyTok ER ((dst : Thread nD τ), .dma sR) 0 0 ∗ reached ER ((dst : Thread nD τ), .dma sR) 0)
      ⊢ iprop(((cred (tallyAt ((c : Thread nD τ), SemLoc.dma sS) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc dst : Thread nD τ) tgt (.dma sS) hsc) (.dma sR) hsrc hdst' hsem) k) Q) := by
  exact Rounds.wp_send_pointsTo 𝒱₀ ER (Rd X P) (c : Thread nD τ) none (κ₁ := κ₁) (κ₂ := κ₂)
    (r₁ := 0) (r₂ := 0) (d₁ := 0) (d₂ := 0) (fs := fs) (fd := fd) hd₁ hd₂ () () N hN ha₁ ha₂ O hO (W := W) p₁ p₂

/-- A copy between blocks held by their elements, its two cells named by their semaphores. -/
theorem wp_copy (c dst : Dev nD) (src tgt : Memref sig .tc .vmem S2x128x512 .bf16) (sS sR : DmaSem sig) (κ₁ κ₂ : ℕ)
    (O O' : CellTallies nD τ sig Unit) (hO : O' = O + tallyAt ((dst : Thread nD τ), SemLoc.dma sR) () N) (W : Waits sig Unit)
    (hd₁ : 0 ∈ (Rd X P).duties ((c : Thread nD τ), .dma sS) 0) (hd₂ : 0 ∈ (Rd X P).duties ((dst : Thread nD τ), .dma sR) 0)
    (ha₁ : (Rd X P).amount ((c : Thread nD τ), .dma sS) 0 0 = N) (ha₂ : (Rd X P).amount ((dst : Thread nD τ), .dma sR) 0 0 = N)
    (hN : tgt.view.amount (.dma sR) = N) (q : PosShare TreeShare) (Y : FVec F S2x128x512 .bf16)
    (hp₁ : block c src q Y ⊢ (Rd X P).payload ((c : Thread nD τ), .dma sS) 0 0)
    (hp₂ : block dst tgt fullShare Y ⊢ (Rd X P).payload ((dst : Thread nD τ), .dma sR) 0 0)
    {hsc : tgt.view.ref.isScScratch = false} {hsrc : src.view.WordExact} {hdst' : tgt.view.WordExact}
    {hsem : DmaTarget.Typed .vmem (.dma sR) (.remote (Dev.tc dst : Thread nD τ) tgt (.dma sS) hsc)} (Q : PUnit → sProp 𝕄) :
    iprop((cellInv ER (Rd X P) κ₁ ((c : Thread nD τ), .dma sS) ∗ cellInv ER (Rd X P) κ₂ ((dst : Thread nD τ), .dma sR)
          ∗ block c src q Y ∗ anyBlock (F := F) dst tgt ∗ owes (c : Thread nD τ) O' W
          ∗ dutyTok ER ((c : Thread nD τ), .dma sS) 0 0 ∗ reached ER ((c : Thread nD τ), .dma sS) 0
          ∗ dutyTok ER ((dst : Thread nD τ), .dma sR) 0 0 ∗ reached ER ((dst : Thread nD τ), .dma sR) 0)
        ∗ ((cred (tallyAt ((c : Thread nD τ), SemLoc.dma sS) () N) ∗ owes (c : Thread nD τ) O W) -∗ Q ⟨⟩))
      ⊢ Runs c (Prog.lift (.enqueueDma src (.remote (Dev.tc dst : Thread nD τ) tgt (.dma sS) hsc) (.dma sR) hsrc hdst' hsem)) Q := by
  unfold Prog.lift anyBlock block owns
  iintro ⟨⟨Hi₁, Hi₂, ⟨%fs, %hfs, Hs⟩, ⟨%Z, %fd, %hfd, Hd⟩, HO, Ht₁, Hr₁, Ht₂, Hr₂⟩, HQ⟩
  have p₁ : (src.view.loc (c : Thread nD τ) ↦[src.view.set]{q} fs) ⊢ (Rd X P).payload ((c : Thread nD τ), .dma sS) 0 0 := by
    refine BIBase.Entails.trans ?_ hp₁
    rw [← hfs]; exact owns_intro (c : Thread nD τ) src q fs
  have p₂ : (tgt.view.loc (dst : Thread nD τ) ↦[tgt.view.set]{fullShare} (tgt.view.write (Elt F) fd (src.view.read (Elt F) fs) Finset.univ))
      ⊢ (Rd X P).payload ((dst : Thread nD τ), .dma sR) 0 0 := by
    rw [hfs]
    exact (landed dst tgt fd Y).trans hp₂
  iapply (wp_send X P c dst src tgt sS sR κ₁ κ₂ O O' hO W hd₁ hd₂ ha₁ ha₂ hN q fs fd p₁ p₂) $$ [Hi₁ Hi₂ HO Ht₁ Ht₂ Hr₁ Hr₂ Hs Hd]
  · isplitl [Hi₁]; · iexact Hi₁
    isplitl [Hi₂]; · iexact Hi₂
    isplitl [Hs]; · iexact Hs
    isplitl [Hd]; · iexact Hd
    isplitl [HO]; · iexact HO
    isplitl [Ht₁]; · iexact Ht₁
    isplitl [Hr₁]; · iexact Hr₁
    isplitl [Ht₂]; · iexact Ht₂
    iexact Hr₂
  iintro H
  rw [wp_ret]; imodintro
  iapply HQ
  iexact H

/-- A copy of a block into a block of the device `o` places on: debt `n`, the tokens of the sending cell `k₁` and of the
peer's receiving cell `k₂` and both blocks spent, the sending cell's credit received. -/
theorem runs_copy (c dst : Dev nD) (src tgt : Memref sig .tc .vmem S2x128x512 .bf16) (sS sR : DmaSem sig) (n : ℕ) (o : Fin 4) (k₁ k₂ : Fin 16)
    (j₁ j₂ : Fin 15) (hn : debt n = (o, k₂)) (hj₁ : tk j₁ = (0, k₁, 0)) (hj₂ : tk j₂ = (o, k₂, 0)) (hdst : dst = peer o c)
    (hk₁ : csem k₁ = .dma sS) (hk₂ : csem k₂ = .dma sR) (ha₁ : amt k₁ = N) (ha₂ : amt k₂ = N) (hd₁ : 0 ∈ duty k₁) (hd₂ : 0 ∈ duty k₂)
    (hN : tgt.view.amount (.dma sR) = N)
    (q : PosShare TreeShare) (Y : FVec F S2x128x512 .bf16)
    (hpay₁ : block c src q Y ⊢ pay X P c k₁ 0) (hpay₂ : block (peer o c) tgt fullShare Y ⊢ pay X P (peer o c) k₂ 0)
    {hsc : tgt.view.ref.isScScratch = false} {hsrc : src.view.WordExact} {hdst' : tgt.view.WordExact}
    {hsem : DmaTarget.Typed .vmem (.dma sR) (.remote (Dev.tc dst : Thread nD τ) tgt (.dma sS) hsc)} (Q : PUnit → sProp 𝕄) :
    iprop(records X P K ∗ owing (F := F) c (n + 1) ∗ tok (F := F) c j₁ ∗ tok (F := F) c j₂ ∗ block c src q Y ∗ anyBlock (F := F) (peer o c) tgt
        ∗ ((owing (F := F) c n ∗ cred (tallyAt (kcell c k₁) () N)) -∗ Q ⟨⟩))
      ⊢ Runs c (Prog.lift (.enqueueDma src (.remote (Dev.tc dst : Thread nD τ) tgt (.dma sS) hsc) (.dma sR) hsrc hdst' hsem)) Q := by
  subst hdst
  unfold owing tok
  rw [hj₁, hj₂, peer_zero]
  have hO : Orem c (n + 1) = Orem c n + tallyAt (kcell (peer o c) k₂) () N := by
    rw [Orem, hn, ha₂]
  have e₁ : kcell c k₁ = ((c : Thread nD τ), SemLoc.dma sS) := by unfold kcell; rw [hk₁]
  have e₂ : kcell (peer o c) k₂ = ((peer o c : Thread nD τ), SemLoc.dma sR) := by unfold kcell; rw [hk₂]
  have i₁ := inv_at X P K c k₁
  have i₂ := inv_at X P K (peer o c) k₂
  have r₁ := reached_at X P K c k₁
  have r₂ := reached_at X P K (peer o c) k₂
  have hd₁' : 0 ∈ (Rd X P).duties (kcell c k₁) 0 := by rw [duties_cell]; exact hd₁
  have hd₂' : 0 ∈ (Rd X P).duties (kcell (peer o c) k₂) 0 := by rw [duties_cell]; exact hd₂
  have ha₁' := (amount_cell X P c k₁ 0).trans ha₁
  have ha₂' := (amount_cell X P (peer o c) k₂ 0).trans ha₂
  rw [← payload_cell] at hpay₁ hpay₂
  generalize kcell c k₁ = g₁ at *
  generalize kcell (peer o c) k₂ = g₂ at *
  subst e₁ e₂
  iintro ⟨#HR, ⟨%W, HO⟩, Ht₁, Ht₂, Hs, Hd, HQ⟩
  iapply (wp_copy X P c (peer o c) src tgt sS sR (K (c, k₁)) (K (peer o c, k₂)) (Orem c n) (Orem c (n + 1)) hO W hd₁' hd₂' ha₁' ha₂' hN q Y hpay₁ hpay₂ Q)
  isplitr [HQ]
  · isplitr; · iapply i₁; iexact HR
    isplitr; · iapply i₂; iexact HR
    isplitl [Hs]; · iexact Hs
    isplitl [Hd]; · iexact Hd
    isplitl [HO]; · iexact HO
    isplitl [Ht₁]; · iexact Ht₁
    isplitr; · iapply r₁; iexact HR
    isplitl [Ht₂]; · iexact Ht₂
    iapply r₂; iexact HR
  iintro ⟨Hc, HO⟩
  iapply HQ
  isplitl [HO]; · iexists W; iexact HO
  iexact Hc

/-- A wait for cell `k`'s round with `n` debts left, all of them above the cell: the round's payloads, and the cell closed. -/
theorem runs_wait (c : Dev nD) (k : Fin 16) (n : ℕ) (w : TpuEff nD τ sig (Elt F) Λ₀ .tc PUnit) (k' : ℕ) (hk' : k' = credit k)
    (hw : ∀ Kt : PUnit → sProp 𝕄, wpE (defs₀ (F := F)) 𝒱₀ (c : Thread nD τ) none Set.univ w Kt = waitSpec (c : Thread nD τ) Set.univ (csem k) k' Kt)
    (hlv : ∀ j, j < n → lvl k < lvl (debt j).2) (Q : PUnit → sProp 𝕄) :
    iprop(records X P K ∗ levAts L lv ∗ owing (F := F) c n ∗ cred (tallyAt (kcell c k) () (credit k)) ∗ atPos ER (kcell c k) 0 ∅ 0
        ∗ ((owing (F := F) c n ∗ semVal (kcell c k) 0 ∗ bigSep (duty k) fun d => pay X P c k d) -∗ Q ⟨⟩))
      ⊢ Runs c (Prog.lift w) Q := by
  subst hk'
  unfold Prog.lift owing
  iintro ⟨#HR, #Hlev, ⟨%W, HO⟩, Hc, Hat, HQ⟩
  iapply (Rounds.wp_wait_rest_token 𝒱₀ ER (Rd X P) (c : Thread nD τ) none (κ := K (c, k)) (sm := csem k)
      hw (Set.mem_univ _) () (O := Orem c n) (W := W) (R := 0) (m := 0) (T := ∅)
      (by rw [show (((c : Thread nD τ), csem k) : GSem nD τ sig) = kcell c k from rfl, expect_cell]; exact Nat.zero_add _)) $$ [Hc HO Hat]
  · isplitr; · iapply (inv_at X P K c k); iexact HR
    isplitl [Hc]; · iexact Hc
    isplitl [HO]; · iexact HO
    isplitr; · iapply (mayWait c (csem k) n (fun j hj => by rw [slv_csem]; exact hlv j hj)); iexact Hlev
    iexact Hat
  iintro ⟨HO, Hat, -, Hpay⟩
  ihave Hp := (Entails.of_eq (rest_cell X P c k)) $$ Hpay
  rw [wp_ret]
  imod (Rounds.cell_close ER (Rd X P) (Set.mem_univ (K (c, k))) (fun h => h) (R := 0 + 1) (duties_later X P (kcell c k))) $$ [Hat] with Hz
  · isplitr; · iapply (inv_at X P K c k); iexact HR
    iexact Hat
  imodintro
  iapply HQ
  isplitl [HO]; · iexists _; iexact HO
  isplitl [Hz]; · iexact Hz
  iexact Hp

/-- A cell that is never used closes as it is. -/
theorem close_unused (c : Dev nD) (k : Fin 16) (h : duty k = ∅) :
    iprop(records X P K ∗ atPos ER (kcell c k) 0 ∅ 0) ⊢ iprop(|={Set.univ}=> semVal (kcell c k) 0) := by
  iintro ⟨#HR, Hat⟩
  iapply (Rounds.cell_close ER (Rd X P) (Set.mem_univ (K (c, k))) (fun h => h) (R := 0) (duties_none X P c k h))
  isplitr; · iapply (inv_at X P K c k); iexact HR
  iexact Hat

end Cert.Proof
-- ==== Proof.Slots.lean ====
/-
  The buffers of the exchange as their blocks: at the launch each is split into its blocks, at the exit the blocks are put
  together again.
-/
module

public import proofs.«01_k».proof.Proof.Steps
public import Idealize.ShloMosaic.Lib.Ring

@[expose] public section

set_option maxRecDepth 16384

noncomputable section

namespace Cert.Proof

open Cert.KernelIdeal
open Cert.KernelIdeal.Facts₀ Cert.KernelIdeal.Facts
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Blocks `r` and `r'` of four are apart. -/
theorem rect4_disjoint (r r' : Fin 4) (h : r ≠ r') : Disjoint (rect4 r).set (rect4 r').set := by
  rw [Finset.disjoint_left]
  intro y hy hy'
  rw [Rect.mem_set_unit] at hy hy'
  have h1 := hy 0
  have h2 := hy' 0
  simp [S1x2x128x512] at h1 h2
  exact h (Fin.ext (by omega))

/-- The four blocks are the whole buffer. -/
theorem rect4_cover : (Finset.univ.biUnion fun r : Fin 4 => (rect4 r).set) = Finset.univ := by
  refine Finset.eq_univ_iff_forall.mpr fun y => Finset.mem_biUnion.mpr ⟨y 0, Finset.mem_univ _, ?_⟩
  rw [Rect.mem_set_unit]
  intro a
  have ha := (y a).isLt
  revert ha
  fin_cases a <;> simp [S1x2x128x512, S4x2x128x512]

/-- Blocks `r` and `r'` of three are apart. -/
theorem rect3_disjoint (r r' : Fin 3) (h : r ≠ r') : Disjoint (rect3 r).set (rect3 r').set := by
  rw [Finset.disjoint_left]
  intro y hy hy'
  rw [Rect.mem_set_unit] at hy hy'
  have h1 := hy 0
  have h2 := hy' 0
  simp [S1x2x128x512] at h1 h2
  exact h (Fin.ext (by omega))

/-- The three blocks are the whole buffer. -/
theorem rect3_cover : (Finset.univ.biUnion fun r : Fin 3 => (rect3 r).set) = Finset.univ := by
  refine Finset.eq_univ_iff_forall.mpr fun y => Finset.mem_biUnion.mpr ⟨y 0, Finset.mem_univ _, ?_⟩
  rw [Rect.mem_set_unit]
  intro a
  have ha := (y a).isLt
  revert ha
  fin_cases a <;> simp [S1x2x128x512, S3x2x128x512]

theorem comm_rect (r : Fin 4) : (comm r).view.set = (rect4 r).set := by
  rw [comm_set]; exact View.set_slice_whole _ _
theorem part_rect (r : Fin 4) : (part r).view.set = (rect4 r).set := by
  rw [part_set]; exact View.set_slice_whole _ _
theorem rs_rect (r : Fin 3) : (rs r).view.set = (rect3 r).set := by
  rw [rs_set]; exact View.set_slice_whole _ _

theorem any_intro (c : Dev nD) (m : Memref sig .tc .vmem S2x128x512 .bf16) (f : Buf (Elt F) (m.view.loc (c : Thread nD τ))) :
    (m.view.loc (c : Thread nD τ) ↦[m.view.set]{fullShare} f) ⊢ anyBlock (F := F) c m := by
  unfold anyBlock
  iintro H
  iexists _
  iapply (owns_intro (c : Thread nD τ) m fullShare f)
  iexact H

theorem any_elim (c : Dev nD) (m : Memref sig .tc .vmem S2x128x512 .bf16) :
    anyBlock (F := F) c m ⊢ iprop(∃ f, m.view.loc (c : Thread nD τ) ↦[m.view.set]{fullShare} f) := by
  unfold anyBlock block owns
  iintro ⟨%X, %f, %hf, H⟩
  iexists f
  iexact H

/-- A buffer held with contents `f` as its blocks, each held with some contents. -/
theorem blocks_of (c : Dev nD) (b : Ref sig .tc) {n : ℕ} (I : Fin n → Finset (Idx ((c : Thread nD τ).loc b)))
    (m : Fin n → Memref sig .tc .vmem S2x128x512 .bf16) (hd : ∀ r r', r ≠ r' → Disjoint (I r) (I r')) (hc : Finset.univ.biUnion I = Finset.univ)
    (h : ∀ r f, ((c : Thread nD τ).loc b ↦[I r]{fullShare} f) ⊢ anyBlock (F := F) c (m r)) (f : Buf (Elt F) ((c : Thread nD τ).loc b)) :
    holds c b f ⊢ bigSep Finset.univ fun r => anyBlock (F := F) c (m r) := by
  unfold holds
  rw [Ring.pointsTo_blocks I hd hc f]
  exact bigSep_mono fun r _ => h r f

/-- A buffer as its blocks, each held with some contents. -/
theorem blocks_split (c : Dev nD) (b : Ref sig .tc) {n : ℕ} (I : Fin n → Finset (Idx ((c : Thread nD τ).loc b)))
    (m : Fin n → Memref sig .tc .vmem S2x128x512 .bf16) (hd : ∀ r r', r ≠ r' → Disjoint (I r) (I r')) (hc : Finset.univ.biUnion I = Finset.univ)
    (h : ∀ r f, ((c : Thread nD τ).loc b ↦[I r]{fullShare} f) ⊢ anyBlock (F := F) c (m r)) :
    some' (F := F) c b ⊢ bigSep Finset.univ fun r => anyBlock (F := F) c (m r) := by
  unfold some'
  iintro ⟨%f, H⟩
  iapply (blocks_of c b I m hd hc h f)
  iexact H

/-- Blocks held with some contents put together. -/
theorem blocks_join (c : Dev nD) (b : Ref sig .tc) {n : ℕ} (I : Fin n → Finset (Idx ((c : Thread nD τ).loc b)))
    (m : Fin n → Memref sig .tc .vmem S2x128x512 .bf16) (hd : ∀ r r', r ≠ r' → Disjoint (I r) (I r')) (hc : Finset.univ.biUnion I = Finset.univ)
    (f₀ : Buf (Elt F) ((c : Thread nD τ).loc b))
    (h : ∀ r, anyBlock (F := F) c (m r) ⊢ iprop(∃ f, (c : Thread nD τ).loc b ↦[I r]{fullShare} f)) :
    (bigSep Finset.univ fun r => anyBlock (F := F) c (m r)) ⊢ some' (F := F) c b :=
  BIBase.Entails.trans (bigSep_mono fun r _ => h r) (Ring.pointsTo_blocks_join_exists I hd hc f₀)

theorem fin3_sep (Φ : Fin 3 → sProp 𝕄) : bigSep Finset.univ Φ = iprop(Φ 0 ∗ Φ 1 ∗ Φ 2) := bigSep_univ_eq_bigSepL [0, 1, 2] (by decide) (by decide) Φ
theorem fin4_sep (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- The gathered activations' buffer as its four blocks. -/
theorem comm_split (c : Dev nD) : some' (F := F) c cc0_scratch0
    ⊢ iprop(anyBlock (F := F) c (comm 0) ∗ anyBlock (F := F) c (comm 1) ∗ anyBlock (F := F) c (comm 2) ∗ anyBlock (F := F) c (comm 3)) := by
  rw [← fin4_sep fun r => anyBlock (F := F) c (comm r)]
  exact blocks_split c cc0_scratch0 (fun r => (rect4 r).set) comm rect4_disjoint rect4_cover fun r f => by
    have h := any_intro c (comm r) f
    rw [comm_rect] at h; exact h

/-- The partial results' buffer as its four blocks. -/
theorem part_split (c : Dev nD) : some' (F := F) c cc0_scratch1
    ⊢ iprop(anyBlock (F := F) c (part 0) ∗ anyBlock (F := F) c (part 1) ∗ anyBlock (F := F) c (part 2) ∗ anyBlock (F := F) c (part 3)) := by
  rw [← fin4_sep fun r => anyBlock (F := F) c (part r)]
  exact blocks_split c cc0_scratch1 (fun r => (rect4 r).set) part rect4_disjoint rect4_cover fun r f => by
    have h := any_intro c (part r) f
    rw [part_rect] at h; exact h

/-- The received partial results' buffer as its three blocks. -/
theorem rs_split (c : Dev nD) : some' (F := F) c cc0_scratch2
    ⊢ iprop(anyBlock (F := F) c (rs 0) ∗ anyBlock (F := F) c (rs 1) ∗ anyBlock (F := F) c (rs 2)) := by
  rw [← fin3_sep fun r => anyBlock (F := F) c (rs r)]
  exact blocks_split c cc0_scratch2 (fun r => (rect3 r).set) rs rect3_disjoint rect3_cover fun r f => by
    have h := any_intro c (rs r) f
    rw [rs_rect] at h; exact h

/-- The four blocks of the gathered activations put together. -/
theorem comm_join (c : Dev nD) :
    iprop(anyBlock (F := F) c (comm 0) ∗ anyBlock (F := F) c (comm 1) ∗ anyBlock (F := F) c (comm 2) ∗ anyBlock (F := F) c (comm 3))
      ⊢ some' (F := F) c cc0_scratch0 := by
  rw [← fin4_sep fun r => anyBlock (F := F) c (comm r)]
  exact blocks_join c cc0_scratch0 (fun r => (rect4 r).set) comm rect4_disjoint rect4_cover (Classical.choice inferInstance) fun r => by
    have h := any_elim (F := F) c (comm r)
    rw [comm_rect] at h; exact h

/-- The four blocks of the partial results put together. -/
theorem part_join (c : Dev nD) :
    iprop(anyBlock (F := F) c (part 0) ∗ anyBlock (F := F) c (part 1) ∗ anyBlock (F := F) c (part 2) ∗ anyBlock (F := F) c (part 3))
      ⊢ some' (F := F) c cc0_scratch1 := by
  rw [← fin4_sep fun r => anyBlock (F := F) c (part r)]
  exact blocks_join c cc0_scratch1 (fun r => (rect4 r).set) part rect4_disjoint rect4_cover (Classical.choice inferInstance) fun r => by
    have h := any_elim (F := F) c (part r)
    rw [part_rect] at h; exact h

/-- The three blocks of the received partial results put together. -/
theorem rs_join (c : Dev nD) :
    iprop(anyBlock (F := F) c (rs 0) ∗ anyBlock (F := F) c (rs 1) ∗ anyBlock (F := F) c (rs 2)) ⊢ some' (F := F) c cc0_scratch2 := by
  rw [← fin3_sep fun r => anyBlock (F := F) c (rs r)]
  exact blocks_join c cc0_scratch2 (fun r => (rect3 r).set) rs rect3_disjoint rect3_cover (Classical.choice inferInstance) fun r => by
    have h := any_elim (F := F) c (rs r)
    rw [rs_rect] at h; exact h

/-- A block split into the three lent shares and the one kept. -/
theorem shares_split (c : Dev nD) (m : Memref sig .tc .vmem S2x128x512 .bf16) (Y : FVec F S2x128x512 .bf16) :
    block c m fullShare Y ⊢ iprop((block c m (lent 0) Y ∗ block c m (lent 1) Y) ∗ (block c m (lent 2) Y ∗ block c m fullShare.right.right Y)) := by
  iintro H
  ihave H := (owns_halves (c : Thread nD τ) m fullShare Y).1 $$ H
  icases H with ⟨A, B⟩
  ihave A := (owns_halves (c : Thread nD τ) m fullShare.left Y).1 $$ A
  ihave B := (owns_halves (c : Thread nD τ) m fullShare.right Y).1 $$ B
  isplitl [A]; · iexact A
  iexact B

/-- The three lent shares and the one kept put together. -/
theorem shares_join (c : Dev nD) (m : Memref sig .tc .vmem S2x128x512 .bf16) (Y : FVec F S2x128x512 .bf16) :
    iprop((block c m (lent 0) Y ∗ block c m (lent 1) Y) ∗ (block c m (lent 2) Y ∗ block c m fullShare.right.right Y)) ⊢ block c m fullShare Y := by
  iintro ⟨A, B⟩
  iapply (owns_halves (c : Thread nD τ) m fullShare Y).2
  isplitl [A]
  · iapply (owns_halves (c : Thread nD τ) m fullShare.left Y).2; iexact A
  iapply (owns_halves (c : Thread nD τ) m fullShare.right Y).2; iexact B

theorem any_of (c : Dev nD) (m : Memref sig .tc .vmem S2x128x512 .bf16) (Y : FVec F S2x128x512 .bf16) :
    block c m fullShare Y ⊢ anyBlock (F := F) c m := by
  unfold anyBlock
  iintro H
  iexists Y
  iexact H

end Cert.Proof
-- ==== Proof.Local.lean ====
/-
  The kernel's first and last local steps: the device's own activations put in block 0 and the three weights put side by
  side; the four partial results of its own block loaded, added and stored.
-/
module

public import proofs.«01_k».proof.Proof.Slots

@[expose] public section

set_option maxRecDepth 16384

noncomputable section

namespace Cert.Proof

open Cert.KernelIdeal
open Cert.KernelIdeal.Facts₀ Cert.KernelIdeal.Facts
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The three weights side by side, the first one scaled. -/
def wqkvOf (wq wk wv : FVec F S512x512 .bf16) : FVec F S512x1536 .bf16 := fun y =>
  if (y 1).val < 512 then Gen.k0_pay2 wq (ix2 (y 0) ⟨(y 1).val % 512, Nat.mod_lt _ (by decide)⟩)
  else if (y 1).val < 1024 then Gen.k0_pay3 wk (ix2 (y 0) ⟨(y 1).val % 512, Nat.mod_lt _ (by decide)⟩)
  else Gen.k0_pay4 wv (ix2 (y 0) ⟨(y 1).val % 512, Nat.mod_lt _ (by decide)⟩)

/-- A weight's place among the three. -/
theorem emb_W (j : Fin 3) (a : Fin 512) (b : Fin 1536) (h : b.val / 512 = j.val) :
    (ix2 a b : S512x1536.Idx) = (rectW j).emb (ix2 a ⟨b.val % 512, Nat.mod_lt _ (by decide)⟩) := by
  idx_ext <;> simp <;> omega

/-- What the three stores leave is the three weights side by side. -/
theorem wqkv_eq (f : FVec F S512x1536 .bf16) (wq wk wv : FVec F S512x512 .bf16) :
    (wqkvM.access (rectW 2)).write (Elt F) ((wqkvM.access (rectW 1)).write (Elt F) ((wqkvM.access (rectW 0)).write (Elt F) f
      (Gen.k0_pay2 wq) Finset.univ) (Gen.k0_pay3 wk) Finset.univ) (Gen.k0_pay4 wv) Finset.univ = wqkvOf wq wk wv := by
  have out (j : Fin 3) (a : Fin 512) (b : Fin 1536) (h : b.val / 512 ≠ j.val) : ∀ x, (ix2 a b : S512x1536.Idx) ≠ (rectW j).emb x := by
    intro x hx
    idx_vars x
    have h1 := congrArg (fun y : S512x1536.Idx => (y 1).val) hx
    simp at h1
    omega
  funext y
  idx_vars y
  have hb := y1.isLt
  unfold wqkvOf
  show wqkvM.view.read (Elt F) ((wqkvM.access (rectW 2)).write (Elt F) ((wqkvM.access (rectW 1)).write (Elt F) ((wqkvM.access (rectW 0)).write (Elt F) f
      (Gen.k0_pay2 wq) Finset.univ) (Gen.k0_pay3 wk) Finset.univ) (Gen.k0_pay4 wv) Finset.univ) (ix2 y0 y1) = _
  by_cases h2 : y1.val / 512 = 2
  · refine (read_put_in (F := F) wqkvM _ _ _ _ _ (emb_W 2 y0 y1 h2)).trans ?_
    rw [if_neg (by show ¬ y1.val < 512; omega), if_neg (by show ¬ y1.val < 1024; omega)]
    rfl
  refine (read_put_out (F := F) wqkvM _ _ _ _ (out 2 y0 y1 h2)).trans ?_
  by_cases h1 : y1.val / 512 = 1
  · refine (read_put_in (F := F) wqkvM _ _ _ _ _ (emb_W 1 y0 y1 h1)).trans ?_
    rw [if_neg (by show ¬ y1.val < 512; omega), if_pos (by show y1.val < 1024; omega)]
    rfl
  refine (read_put_out (F := F) wqkvM _ _ _ _ (out 1 y0 y1 h1)).trans ?_
  have h0 : y1.val / 512 = 0 := by omega
  refine (read_put_in (F := F) wqkvM _ _ _ _ _ (emb_W 0 y0 y1 h0)).trans ?_
  rw [if_pos (by show y1.val < 512; omega)]
  rfl

/-- A weight stored among the three. -/
theorem runs_putW (c : Dev nD) (j : Fin 3) (w : FVec F S512x512 .bf16) (f : FVec F S512x1536 .bf16) (Q : PUnit → sProp 𝕄) :
    iprop(holds (F := F) c cc0_scratch3 f ∗ (holds (F := F) c cc0_scratch3 ((wqkvM.access (rectW j)).write (Elt F) f w Finset.univ) -∗ Q ⟨⟩))
      ⊢ Runs c (putW j w) Q := by
  unfold putW
  rw [runs_bind]
  iintro ⟨Hm, Hk⟩
  iapply (runs_loadU c); isplitl [Hm]; · iexact Hm
  iintro Hm
  iapply (runs_storeU c); isplitl [Hm]; · iexact Hm
  iexact Hk

theorem comm_subset' : (commM.access (rect4 0)).set ⊆ (comm 0).view.set := by
  rw [comm_set]

/-- Block 0 stored: the device's own activations. -/
theorem runs_putX (c : Dev nD) (x : FVec F S2x128x512 .bf16)
    {hl : (commM : Memref sig .tc .vmem S4x2x128x512 .bf16).view.LoadsAt (rect4 0).toLoadRect}
    {hx : (commM.access (rect4 0)).Stores Finset.univ} {hm : (Finset.univ : Finset (rect4 0).shape.Idx) = Finset.univ ∨ ∀ a, (rect4 0).stride a = 1}
    (Q : PUnit → sProp 𝕄) :
    iprop(anyBlock (F := F) c (comm 0) ∗ (block c (comm 0) fullShare x -∗ Q ⟨⟩))
      ⊢ Runs c (do
          let _ : Vec F S1x2x128x512 .bf16 ← Prog.lift (.load commM (rect4 0).toLoadRect hl)
          Prog.lift (.store commM (rect4 0) (Gen.k0_pay1 x) Finset.univ hx hm)) Q := by
  unfold anyBlock block owns
  rw [runs_bind]
  iintro ⟨⟨%Z, %f, %hf, Hm⟩, Hk⟩
  iapply (runs_load c (comm_subset 0)); isplitl [Hm]; · iexact Hm
  iintro Hm
  iapply (runs_store c comm_subset'); isplitl [Hm]; · iexact Hm
  iintro Hm
  iapply Hk
  iexists _
  isplitr
  swap; · iexact Hm
  ipureintro
  have h : (commM.access (rect4 0)).read (Elt F) ((commM.access (rect4 0)).write (Elt F) f (Gen.k0_pay1 x) Finset.univ) = Gen.k0_pay1 x :=
    View.read_write_univ _ _
  show shapeCast S2x128x512 ((commM.access (rect4 0)).read (Elt F) ((commM.access (rect4 0)).write (Elt F) f (Gen.k0_pay1 x) Finset.univ))
    shapeCasts_S1x2x128x512_S2x128x512 = x
  rw [h]
  unfold Gen.k0_pay1
  rw [shapeCast_self]
  exact shapeCast_shapeCast x _ _

/-- The first local steps, run. -/
theorem runs_fill (c : Dev nD) (x : FVec F S2x128x512 .bf16) (wq wk wv : FVec F S512x512 .bf16) (Q : PUnit → sProp 𝕄) :
    iprop(holds (F := F) c cc0_stg0_0 x ∗ holds (F := F) c cc0_stg1_0 wq ∗ holds (F := F) c cc0_stg3_0 wk ∗ holds (F := F) c cc0_stg4_0 wv
        ∗ anyBlock (F := F) c (comm 0) ∗ some' (F := F) c cc0_scratch3
        ∗ ((holds (F := F) c cc0_stg0_0 x ∗ holds (F := F) c cc0_stg1_0 wq ∗ holds (F := F) c cc0_stg3_0 wk ∗ holds (F := F) c cc0_stg4_0 wv
          ∗ block c (comm 0) fullShare x ∗ holds (F := F) c cc0_scratch3 (wqkvOf wq wk wv)) -∗ Q ⟨⟩))
      ⊢ Runs c fill Q := by
  unfold fill some'
  iintro ⟨Hx, Hq, Hk, Hv, Hc, ⟨%f, Hw⟩, HQ⟩
  rw [runs_bind]
  iapply (runs_loadU c); isplitl [Hx]; · iexact Hx
  iintro Hx
  have ex : xM.view.readAt (Elt F) rectAllX.toLoadRect x = x := Memref.readAt_unit_zero (Elt F) cc0_stg0_0 hz3 _ x
  have eq : wqM.view.readAt (Elt F) rectAllS.toLoadRect wq = wq := Memref.readAt_unit_zero (Elt F) cc0_stg1_0 hz2 _ wq
  have ek : wkM.view.readAt (Elt F) rectAllS.toLoadRect wk = wk := Memref.readAt_unit_zero (Elt F) cc0_stg3_0 hz2 _ wk
  have ev : wvM.view.readAt (Elt F) rectAllS.toLoadRect wv = wv := Memref.readAt_unit_zero (Elt F) cc0_stg4_0 hz2 _ wv
  rw [ex, ← bind_assoc, runs_bind]
  iapply (runs_putX c x); isplitl [Hc]; · iexact Hc
  iintro Hc
  unfold getS
  rw [runs_bind]
  iapply (runs_loadU c); isplitl [Hq]; · iexact Hq
  iintro Hq
  rw [eq, runs_bind]
  iapply (runs_putW c); isplitl [Hw]; · iexact Hw
  iintro Hw
  rw [runs_bind]
  iapply (runs_loadU c); isplitl [Hk]; · iexact Hk
  iintro Hk
  rw [ek, runs_bind]
  iapply (runs_putW c); isplitl [Hw]; · iexact Hw
  iintro Hw
  rw [runs_bind]
  iapply (runs_loadU c); isplitl [Hv]; · iexact Hv
  iintro Hv
  rw [ev]
  iapply (runs_putW c); isplitl [Hw]; · iexact Hw
  iintro Hw
  rw [wqkv_eq]
  iapply HQ
  isplitl [Hx]; · iexact Hx
  isplitl [Hq]; · iexact Hq
  isplitl [Hk]; · iexact Hk
  isplitl [Hv]; · iexact Hv
  isplitl [Hc]; · iexact Hc
  iexact Hw

/-- A partial result's block loaded: its contents with a leading unit axis. -/
theorem runs_loadPart (c : Dev nD) (r : Fin 4) (q : PosShare TreeShare) (Y : FVec F S2x128x512 .bf16)
    {hl : (partM : Memref sig .tc .vmem S4x2x128x512 .bf16).view.LoadsAt (rect4 r).toLoadRect} (Q : FVec F S1x2x128x512 .bf16 → sProp 𝕄) :
    iprop(block c (part r) q Y ∗ (block c (part r) q Y -∗ Q (shapeCast S1x2x128x512 Y shapeCasts_S2x128x512_S1x2x128x512)))
      ⊢ Runs c (Prog.lift (.load partM (rect4 r).toLoadRect hl)) Q := by
  unfold block owns
  iintro ⟨⟨%f, %hf, Hx⟩, Hk⟩
  iapply (runs_load c (part_subset r)); isplitl [Hx]; · iexact Hx
  iintro Hx
  have h : partM.view.readAt (Elt F) (rect4 r).toLoadRect f = shapeCast S1x2x128x512 Y shapeCasts_S2x128x512_S1x2x128x512 := by
    rw [← hf]
    exact (shapeCast_shapeCast _ shapeCasts_S1x2x128x512_S2x128x512 _).symm
  rw [h]
  iapply Hk
  iexists f
  isplitr; · ipureintro; exact hf
  iexact Hx

/-- A received partial result's block loaded likewise. -/
theorem runs_loadRs (c : Dev nD) (r : Fin 3) (q : PosShare TreeShare) (Y : FVec F S2x128x512 .bf16)
    {hl : (rsM : Memref sig .tc .vmem S3x2x128x512 .bf16).view.LoadsAt (rect3 r).toLoadRect} (Q : FVec F S1x2x128x512 .bf16 → sProp 𝕄) :
    iprop(block c (rs r) q Y ∗ (block c (rs r) q Y -∗ Q (shapeCast S1x2x128x512 Y shapeCasts_S2x128x512_S1x2x128x512)))
      ⊢ Runs c (Prog.lift (.load rsM (rect3 r).toLoadRect hl)) Q := by
  unfold block owns
  iintro ⟨⟨%f, %hf, Hx⟩, Hk⟩
  iapply (runs_load c (rs_subset r)); isplitl [Hx]; · iexact Hx
  iintro Hx
  have h : rsM.view.readAt (Elt F) (rect3 r).toLoadRect f = shapeCast S1x2x128x512 Y shapeCasts_S2x128x512_S1x2x128x512 := by
    rw [← hf]
    exact (shapeCast_shapeCast _ shapeCasts_S1x2x128x512_S2x128x512 _).symm
  rw [h]
  iapply Hk
  iexists f
  isplitr; · ipureintro; exact hf
  iexact Hx

/-- The four partial results added. -/
def sumOf (p a b e : FVec F S2x128x512 .bf16) : FVec F S2x128x512 .f32 :=
  Gen.k0_pay305 (Gen.k0_pay304 (shapeCast S1x2x128x512 p shapeCasts_S2x128x512_S1x2x128x512) (shapeCast S1x2x128x512 a shapeCasts_S2x128x512_S1x2x128x512))
    (shapeCast S1x2x128x512 b shapeCasts_S2x128x512_S1x2x128x512) (shapeCast S1x2x128x512 e shapeCasts_S2x128x512_S1x2x128x512)

/-- The result stored. -/
theorem runs_putOut (c : Dev nD) (w : FVec F S2x128x512 .f32)
    {hl : (outM : Memref sig .tc .vmem S2x128x512 .f32).view.LoadsAt rectAllX.toLoadRect}
    {hx : (outM.access rectAllX).Stores Finset.univ} {hm : (Finset.univ : Finset rectAllX.shape.Idx) = Finset.univ ∨ ∀ a, rectAllX.stride a = 1}
    (Q : PUnit → sProp 𝕄) :
    iprop(some' (F := F) c cc0_stg5_0 ∗ (holds (F := F) c cc0_stg5_0 w -∗ Q ⟨⟩))
      ⊢ Runs c (do
          let _ : Vec F S2x128x512 .f32 ← Prog.lift (.load outM rectAllX.toLoadRect hl)
          Prog.lift (.store outM rectAllX w Finset.univ hx hm)) Q := by
  unfold some'
  rw [runs_bind]
  iintro ⟨⟨%f, Hm⟩, Hk⟩
  iapply (runs_loadU c); isplitl [Hm]; · iexact Hm
  iintro Hm
  iapply (runs_storeU c); isplitl [Hm]; · iexact Hm
  have e : (outM.access rectAllX).write (Elt F) f w Finset.univ = w := Memref.write_access_unit_zero_univ (Elt F) cc0_stg5_0 hz3 _ f w
  rw [e]
  iexact Hk

end Cert.Proof
-- ==== Proof.Exchange.lean ====
/-
  What one device's run starts from and ends with: its buffers, its part of the exchange, and the rules
  of its copies and waits at the exchange's cells.
-/
module

public import proofs.«01_k».proof.Proof.Local

@[expose] public section

set_option maxRecDepth 16384

noncomputable section

namespace Cert.Proof

open Cert.KernelIdeal
open Cert.KernelIdeal.Facts₀ Cert.KernelIdeal.Facts
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (F) in
/-- A device's five blocks of the operands. -/
structure Ins where
  x : FVec F S2x128x512 .bf16
  wq : FVec F S512x512 .bf16
  wo : FVec F S512x512 .bf16
  wk : FVec F S512x512 .bf16
  wv : FVec F S512x512 .bf16

variable (I : Dev nD → Ins F)

/-- The activations of the devices. -/
def acts (c : Dev nD) : FVec F S2x128x512 .bf16 := (I c).x

/-- Device `c`'s partial result for the block `r` places on. -/
def parts (c : Dev nD) (r : Fin 4) : FVec F S2x128x512 .bf16 :=
  partOf (Gen.k0_pay5 (I c).wo) (wqkvOf (I c).wq (I c).wk (I c).wv) (acts I (peer r c))

/-- Device `c`'s result: its own partial result and the three it receives, added. -/
def outOf (c : Dev nD) : FVec F S2x128x512 .f32 :=
  sumOf (parts I c 0) (parts I (peer 1 c) 3) (parts I (peer 3 c) 1) (parts I (peer 2 c) 2)

variable (K : Dev nD × Fin 16 → ℕ)

theorem part_zero (c : Dev nD) : parts I c 0 = partOf (Gen.k0_pay5 (I c).wo) (wqkvOf (I c).wq (I c).wk (I c).wv) (acts I c) := by
  unfold parts; rw [peer_zero]

/-- The barrier's three payloads. -/
theorem bar_pays (X : Dev nD → FVec F S2x128x512 .bf16) (P : Dev nD → Fin 4 → FVec F S2x128x512 .bf16) (c : Dev nD) :
    (bigSep (duty 0) fun d => pay X P c 0 d) = iprop(barPay (F := F) c 0 ∗ barPay (F := F) c 1 ∗ barPay (F := F) c 2) :=
  fin3_sep fun d => pay X P c 0 d

/-- Any other used cell's one payload. -/
theorem one_pay (X : Dev nD → FVec F S2x128x512 .bf16) (P : Dev nD → Fin 4 → FVec F S2x128x512 .bf16) (c : Dev nD) (k : Fin 16) (h : duty k = {0}) :
    (bigSep (duty k) fun d => pay X P c k d) = pay X P c k 0 := by
  rw [h]; exact bigSep_singleton

/-- What the tokens and the positions of a device are, one by one. -/
def toks (c : Dev nD) : sProp 𝕄 :=
  iprop(tok (F := F) c 0 ∗ tok (F := F) c 1 ∗ tok (F := F) c 2 ∗ tok (F := F) c 3 ∗ tok (F := F) c 4 ∗ tok (F := F) c 5 ∗ tok (F := F) c 6
    ∗ tok (F := F) c 7 ∗ tok (F := F) c 8 ∗ tok (F := F) c 9 ∗ tok (F := F) c 10 ∗ tok (F := F) c 11 ∗ tok (F := F) c 12 ∗ tok (F := F) c 13
    ∗ tok (F := F) c 14)

/-- Cell `k` of device `c` at its round. -/
def at' (c : Dev nD) (k : Fin 16) : sProp 𝕄 := atPos ER (kcell c k) 0 ∅ 0
def ats (c : Dev nD) : sProp 𝕄 :=
  iprop(at' (F := F) c 0 ∗ at' (F := F) c 1 ∗ at' (F := F) c 2 ∗ at' (F := F) c 3 ∗ at' (F := F) c 4 ∗ at' (F := F) c 5 ∗ at' (F := F) c 6
    ∗ at' (F := F) c 7 ∗ at' (F := F) c 8 ∗ at' (F := F) c 9 ∗ at' (F := F) c 10 ∗ at' (F := F) c 11 ∗ at' (F := F) c 12 ∗ at' (F := F) c 13
    ∗ at' (F := F) c 14 ∗ at' (F := F) c 15)

/-- The credits a device starts from: its barrier's and its receiving cells'. -/
def cr (c : Dev nD) (k : Fin 16) : sProp 𝕄 := cred (tallyAt (kcell c k) () (credit k))
def crs (c : Dev nD) : sProp 𝕄 :=
  iprop(cr (F := F) c 0 ∗ cr (F := F) c 5 ∗ cr (F := F) c 6 ∗ cr (F := F) c 7 ∗ cr (F := F) c 12 ∗ cr (F := F) c 13 ∗ cr (F := F) c 14)

/-- Cell `k` of device `c` at zero, closed. -/
def zero (c : Dev nD) (k : Fin 16) : sProp 𝕄 := semVal (kcell c k) 0
def zeros (c : Dev nD) : sProp 𝕄 :=
  iprop(zero (F := F) c 0 ∗ zero (F := F) c 1 ∗ zero (F := F) c 2 ∗ zero (F := F) c 3 ∗ zero (F := F) c 4 ∗ zero (F := F) c 5 ∗ zero (F := F) c 6
    ∗ zero (F := F) c 7 ∗ zero (F := F) c 8 ∗ zero (F := F) c 9 ∗ zero (F := F) c 10 ∗ zero (F := F) c 11 ∗ zero (F := F) c 12 ∗ zero (F := F) c 13
    ∗ zero (F := F) c 14 ∗ zero (F := F) c 15)

/-- The operands' blocks in place. -/
def insHeld (c : Dev nD) : sProp 𝕄 :=
  iprop(holds (F := F) c cc0_stg0_0 (I c).x ∗ holds (F := F) c cc0_stg1_0 (I c).wq ∗ holds (F := F) c cc0_stg2_0 (I c).wo
    ∗ holds (F := F) c cc0_stg3_0 (I c).wk ∗ holds (F := F) c cc0_stg4_0 (I c).wv)

/-- The kernel's buffers of its own, with some contents. -/
def scratch (c : Dev nD) : sProp 𝕄 :=
  iprop(some' (F := F) c cc0_scratch0 ∗ some' (F := F) c cc0_scratch1 ∗ some' (F := F) c cc0_scratch2 ∗ some' (F := F) c cc0_scratch3 ∗ work (F := F) c)

def bodyPre (c : Dev nD) : sProp 𝕄 :=
  iprop(records (acts I) (parts I) K ∗ levAts L lv ∗ toks (F := F) c ∗ ats (F := F) c ∗ crs (F := F) c ∗ owing (F := F) c 9
    ∗ scratch (F := F) c ∗ insHeld I c ∗ some' (F := F) c cc0_stg5_0)

def bodyPost (c : Dev nD) : sProp 𝕄 :=
  iprop(zeros (F := F) c ∗ owing (F := F) c 0 ∗ scratch (F := F) c ∗ insHeld I c ∗ holds (F := F) c cc0_stg5_0 (outOf I c))

theorem dev1 : ∀ c : Dev nD, (⟨k0_dev1 c, k0_dev1_lt c⟩ : Dev nD) = peer 3 c := by decide
theorem dev2 : ∀ c : Dev nD, (⟨k0_dev2 c, k0_dev2_lt c⟩ : Dev nD) = peer 1 c := by decide
theorem dev3 : ∀ c : Dev nD, (⟨k0_dev3 c, k0_dev3_lt c⟩ : Dev nD) = peer 2 c := by decide
theorem dev4 : ∀ c : Dev nD, (⟨k0_dev4 c, k0_dev4_lt c⟩ : Dev nD) = peer 3 c := by decide
theorem dev5 : ∀ c : Dev nD, (⟨k0_dev5 c, k0_dev5_lt c⟩ : Dev nD) = peer 1 c := by decide
theorem dev6 : ∀ c : Dev nD, (⟨k0_dev6 c, k0_dev6_lt c⟩ : Dev nD) = peer 2 c := by decide
theorem dev7 : ∀ c : Dev nD, (⟨k0_dev7 c, k0_dev7_lt c⟩ : Dev nD) = peer 3 c := by decide
theorem dev8 : ∀ c : Dev nD, (⟨k0_dev8 c, k0_dev8_lt c⟩ : Dev nD) = peer 1 c := by decide
theorem dev9 : ∀ c : Dev nD, (⟨k0_dev9 c, k0_dev9_lt c⟩ : Dev nD) = peer 2 c := by decide

theorem back31 (c : Dev nD) : peer 1 (peer 3 c) = c := by rw [peer_peer]; exact peer_zero c
theorem back13 (c : Dev nD) : peer 3 (peer 1 c) = c := by rw [peer_peer]; exact peer_zero c
theorem back22 (c : Dev nD) : peer 2 (peer 2 c) = c := by rw [peer_peer]; exact peer_zero c

/-- A wait for a copy: its one payload, and its cell closed. -/
theorem runs_waitDma (X : Dev nD → FVec F S2x128x512 .bf16) (P : Dev nD → Fin 4 → FVec F S2x128x512 .bf16)
    (c : Dev nD) (k : Fin 16) (n : ℕ) (sem : DmaSem sig) (src dst : Memref sig .tc .vmem S2x128x512 .bf16) (hs : csem k = .dma sem)
    (hN : dst.view.dmaCredit = N) (hd : duty k = {0}) (ha : amt k = N) (hlv : ∀ j, j < n → lvl k < lvl (debt j).2)
    (Y : sProp 𝕄) (hY : pay X P c k 0 = Y)
    {h₁ : src.view.WordExact} {h₂ : dst.view.WordExact} (Q : PUnit → sProp 𝕄) :
    iprop(records X P K ∗ levAts L lv ∗ owing (F := F) c n ∗ cr (F := F) c k ∗ at' (F := F) c k
        ∗ ((owing (F := F) c n ∗ zero (F := F) c k ∗ Y) -∗ Q ⟨⟩))
      ⊢ Runs c (Prog.lift (.waitDma2 sem src dst h₁ h₂)) Q := by
  have hc : N = credit k := by unfold credit; rw [hd, ha]; exact (Nat.one_mul _).symm
  have h := runs_wait X P K c k n (.waitDma2 sem src dst h₁ h₂ : TpuEff nD τ sig (Elt F) Λ₀ .tc PUnit) N hc
    (by rw [hs, ← hN]; exact wpE_waitDma2_eq 𝒱₀ (c : Thread nD τ) none Set.univ) hlv Q
  rw [one_pay X P c k hd, hY] at h
  exact h

/-- The wait for the barrier: the blocks to write, and the cell closed. -/
theorem runs_waitBar (X : Dev nD → FVec F S2x128x512 .bf16) (P : Dev nD → Fin 4 → FVec F S2x128x512 .bf16) (c : Dev nD) (Q : PUnit → sProp 𝕄) :
    iprop(records X P K ∗ levAts L lv ∗ owing (F := F) c 6 ∗ cr (F := F) c 0 ∗ at' (F := F) c 0
        ∗ ((owing (F := F) c 6 ∗ zero (F := F) c 0 ∗ barPay (F := F) c 0 ∗ barPay (F := F) c 1 ∗ barPay (F := F) c 2) -∗ Q ⟨⟩))
      ⊢ Runs c (semWaitWord barS 3#32) Q := by
  have h := runs_wait X P K c 0 6 (.semWait barS 3 : TpuEff nD τ sig (Elt F) Λ₀ .tc PUnit) 3 rfl
    (wpE_semWait_eq 𝒱₀ (c : Thread nD τ) none Set.univ) (by decide) Q
  rw [bar_pays X P c] at h
  exact h

/-- The work on block `r`, at the activations it gathers. -/
theorem runs_chunkOf (c : Dev nD) (r : Fin 4) (q : PosShare TreeShare) (X : FVec F S2x128x512 .bf16) (hX : X = acts I (peer r c)) (Q : PUnit → sProp 𝕄) :
    iprop(block c (comm r) q X ∗ holds (F := F) c cc0_scratch3 (wqkvOf (I c).wq (I c).wk (I c).wv) ∗ work (F := F) c ∗ anyBlock (F := F) c (part r)
        ∗ ((block c (comm r) q X ∗ holds (F := F) c cc0_scratch3 (wqkvOf (I c).wq (I c).wk (I c).wv) ∗ work (F := F) c
            ∗ block c (part r) fullShare (parts I c r)) -∗ Q ⟨⟩))
      ⊢ Runs c (chunk (Gen.k0_pay5 (I c).wo) r) Q := by
  subst hX
  exact runs_chunk c (Gen.k0_pay5 (I c).wo) (wqkvOf (I c).wq (I c).wk (I c).wv) r q (acts I (peer r c)) Q

/-- The blocks a device hands over with its three signals. -/
theorem hand0 (c : Dev nD) : iprop(anyBlock (F := F) c (comm 3) ∗ anyBlock (F := F) c (rs 0)) ⊢ barPay (F := F) (peer 3 c) 0 := by
  show _ ⊢ iprop(anyBlock (F := F) (peer 1 (peer 3 c)) (comm 3) ∗ anyBlock (F := F) (peer 1 (peer 3 c)) (rs 0))
  rw [back31]
theorem hand1 (c : Dev nD) : iprop(anyBlock (F := F) c (comm 1) ∗ anyBlock (F := F) c (rs 1)) ⊢ barPay (F := F) (peer 1 c) 1 := by
  show _ ⊢ iprop(anyBlock (F := F) (peer 3 (peer 1 c)) (comm 1) ∗ anyBlock (F := F) (peer 3 (peer 1 c)) (rs 1))
  rw [back13]
theorem hand2 (c : Dev nD) : iprop(anyBlock (F := F) c (comm 2) ∗ anyBlock (F := F) c (rs 2)) ⊢ barPay (F := F) (peer 2 c) 2 := by
  show _ ⊢ iprop(anyBlock (F := F) (peer 2 (peer 2 c)) (comm 2) ∗ anyBlock (F := F) (peer 2 (peer 2 c)) (rs 2))
  rw [back22]

/-- The copy of a device's own activations into its peer's block, its rule at the exchange's cells. -/
theorem runs_agCopy (c dst : Dev nD) (s : Fin 4) (i : Fin 3) (n : ℕ) (o : Fin 4) (k₁ k₂ : Fin 16) (j₁ j₂ : Fin 15)
    (hn : debt n = (o, k₂)) (hj₁ : tk j₁ = (0, k₁, 0)) (hj₂ : tk j₂ = (o, k₂, 0)) (hdst : dst = peer o c)
    (hk₁ : csem k₁ = .dma (agSend i)) (hk₂ : csem k₂ = .dma (agRecv s)) (ha₁ : amt k₁ = N) (ha₂ : amt k₂ = N) (hd₁ : duty k₁ = {0}) (hd₂ : 0 ∈ duty k₂)
    (q : PosShare TreeShare) (hpay₁ : block c (comm 0) q (acts I c) ⊢ pay (acts I) (parts I) c k₁ 0)
    (hpay₂ : block (peer o c) (comm s) fullShare (acts I c) ⊢ pay (acts I) (parts I) (peer o c) k₂ 0) (Q : PUnit → sProp 𝕄) :
    iprop(records (acts I) (parts I) K ∗ owing (F := F) c (n + 1) ∗ tok (F := F) c j₁ ∗ tok (F := F) c j₂ ∗ block c (comm 0) q (acts I c)
        ∗ anyBlock (F := F) (peer o c) (comm s) ∗ ((owing (F := F) c n ∗ cr (F := F) c k₁) -∗ Q ⟨⟩))
      ⊢ Runs c (agCopy dst s i) Q := by
  unfold cr
  rw [show credit k₁ = N by unfold credit; rw [hd₁, ha₁]; exact Nat.one_mul _]
  exact runs_copy (acts I) (parts I) K c dst (comm 0) (comm s) (agSend i) (agRecv s) n o k₁ k₂ j₁ j₂ hn hj₁ hj₂ hdst hk₁ hk₂ ha₁ ha₂ (by rw [hd₁]; exact Finset.mem_singleton_self _) hd₂ rfl q _ hpay₁ hpay₂ Q

/-- The copy of a partial result into its peer's block, its rule at the exchange's cells. -/
theorem runs_rsCopy (c dst : Dev nD) (r : Fin 4) (s : Fin 3) (n : ℕ) (o : Fin 4) (k₁ k₂ : Fin 16) (j₁ j₂ : Fin 15)
    (hn : debt n = (o, k₂)) (hj₁ : tk j₁ = (0, k₁, 0)) (hj₂ : tk j₂ = (o, k₂, 0)) (hdst : dst = peer o c)
    (hk₁ : csem k₁ = .dma (rsSend s.castSucc)) (hk₂ : csem k₂ = .dma (rsRecv s.castSucc)) (ha₁ : amt k₁ = N) (ha₂ : amt k₂ = N)
    (hd₁ : duty k₁ = {0}) (hd₂ : 0 ∈ duty k₂)
    (hpay₁ : block c (part r) fullShare (parts I c r) ⊢ pay (acts I) (parts I) c k₁ 0)
    (hpay₂ : block (peer o c) (rs s) fullShare (parts I c r) ⊢ pay (acts I) (parts I) (peer o c) k₂ 0) (Q : PUnit → sProp 𝕄) :
    iprop(records (acts I) (parts I) K ∗ owing (F := F) c (n + 1) ∗ tok (F := F) c j₁ ∗ tok (F := F) c j₂ ∗ block c (part r) fullShare (parts I c r)
        ∗ anyBlock (F := F) (peer o c) (rs s) ∗ ((owing (F := F) c n ∗ cr (F := F) c k₁) -∗ Q ⟨⟩))
      ⊢ Runs c (rsCopy dst r s) Q := by
  unfold cr
  rw [show credit k₁ = N by unfold credit; rw [hd₁, ha₁]; exact Nat.one_mul _]
  exact runs_copy (acts I) (parts I) K c dst (part r) (rs s) (rsSend s.castSucc) (rsRecv s.castSucc) n o k₁ k₂ j₁ j₂ hn hj₁ hj₂ hdst hk₁ hk₂ ha₁ ha₂ (by rw [hd₁]; exact Finset.mem_singleton_self _) hd₂ rfl
    fullShare _ hpay₁ hpay₂ Q

end Cert.Proof
-- ==== Proof.Deal.lean ====
/-
  What the devices start from, dealt out: from the exchange's positions, tokens and closed semaphores as they are made,
  every cell's invariant, and to each device its own positions, the tokens it pays with, and the credits its waits spend.
-/
module

public import proofs.«01_k».proof.Proof.Exchange
public import proofs.«01_k».proof.Proof.Gen.KernelIdeal.Launch
public import Idealize.ShloMosaic.Lib.Pipeline.Launch
public import Idealize.ShloMosaic.Lib.Pipeline.Kit

@[expose] public section

set_option maxRecDepth 16384

noncomputable section

namespace Cert.Proof

open Cert.KernelIdeal
open Cert.KernelIdeal.Facts₀ Cert.KernelIdeal.Facts
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Lists of a device's cells and tokens -/

omit [FloatOps F] in
theorem fin16_sep (Φ : Fin 16 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ

omit [FloatOps F] in
theorem fin15_sep (Φ : Fin 15 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  bigSep_univ_eq_bigSepL [0, 1, 2, 3, 4, 5, 6, 7, 8, 9, 10, 11, 12, 13, 14] (by decide) (by decide) Φ

omit [FloatOps F] in
theorem fin7_sep (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

theorem toks_eq (c : Dev nD) : (toks c : sProp 𝕄) = bigSep Finset.univ fun j => tok (F := F) c j := by
  rw [fin15_sep]; rfl

theorem ats_eq (c : Dev nD) : (ats c : sProp 𝕄) = bigSep Finset.univ fun k => at' (F := F) c k := by
  rw [fin16_sep]; rfl

theorem zeros_eq (c : Dev nD) : (zeros c : sProp 𝕄) = bigSep Finset.univ fun k => zero (F := F) c k := by
  rw [fin16_sep]; rfl

/-! ## The semaphores -/

/-- The kernel's own semaphores: all the cells but the barrier. -/
abbrev osem (k : Fin 15) : SemLoc sig := csem k.succ

theorem ownSemFacts : Pipeline.OwnSemFacts cfg0.spec osem := by decide

/-- The one semaphore that is not the kernel's own is the barrier. -/
theorem bar_sem (c : Dev nD) : (unscopedSems0 c : sProp 𝕄) = zero (F := F) c 0 := by
  unfold unscopedSems0; rw [bigSep_eq_bigSepL_of_eq [SemLoc.reg barS] (by decide) (by decide)]; rfl

/-- A device's own semaphores and its barrier at zero: its cells at zero, one by one. -/
theorem zeros_intro (c : Dev nD) :
    iprop(Pipeline.ownSems0 (Ix := Unit) (Name := ℕ) (U := UU) (Lvl := ℕ) (Val := Elt F) (τ := τ) osem c ∗ unscopedSems0 c)
      ⊢ (zeros c : sProp 𝕄) := by
  rw [show (Pipeline.ownSems0 (Ix := Unit) (Name := ℕ) (U := UU) (Lvl := ℕ) (Val := Elt F) (τ := τ) osem c : sProp 𝕄)
      = bigSep Finset.univ fun k : Fin 15 => zero (F := F) c k.succ from rfl, fin15_sep]
  rw [bar_sem]
  iintro ⟨H, HB⟩
  unfold zeros
  isplitl [HB]; · iexact HB
  iexact H

theorem zeros_elim (c : Dev nD) : (zeros c : sProp 𝕄)
    ⊢ iprop(unscopedSems0 c ∗ Pipeline.ownSems0 (Ix := Unit) (Name := ℕ) (U := UU) (Lvl := ℕ) (Val := Elt F) (τ := τ) osem c) := by
  rw [show (Pipeline.ownSems0 (Ix := Unit) (Name := ℕ) (U := UU) (Lvl := ℕ) (Val := Elt F) (τ := τ) osem c : sProp 𝕄)
      = bigSep Finset.univ fun k : Fin 15 => zero (F := F) c k.succ from rfl, fin15_sep]
  rw [bar_sem]
  unfold zeros
  iintro ⟨HB, H⟩
  isplitl [HB]; · iexact HB
  iexact H

/-! ## The positions and tokens as they are made -/

theorem cells_injective : Function.Injective fun ck : Dev nD × Fin 16 => kcell ck.1 ck.2 :=
  fun a b h => Prod.ext (kcell_inj h).1 (kcell_inj h).2

/-- All the cells. -/
def cells : Finset (GSem nD τ sig) := Finset.univ.map ⟨fun ck : Dev nD × Fin 16 => kcell ck.1 ck.2, cells_injective⟩

/-- Token `j` as made: on the device that receives what it pays. -/
abbrev tokOf (cj : Dev nD × Fin 15) : GSem nD τ sig × ℕ × Fin 3 := (kcell cj.1 (tk cj.2).2.1, 0, (tk cj.2).2.2)

theorem tk_inj : ∀ a b : Fin 15, (tk a).2 = (tk b).2 → a = b := by decide

theorem tokOf_injective : Function.Injective tokOf := fun a b h => by
  have h1 := kcell_inj (congrArg Prod.fst h)
  exact Prod.ext h1.1 (tk_inj _ _ (Prod.ext h1.2 (congrArg (fun x => x.2.2) h)))

/-- All the tokens. -/
def tokens : Finset (GSem nD τ sig × ℕ × Fin 3) := Finset.univ.map ⟨tokOf, tokOf_injective⟩

variable (X : Dev nD → FVec F S2x128x512 .bf16) (P : Dev nD → Fin 4 → FVec F S2x128x512 .bf16)

/-- The tokens on device `c` as made. -/
def made (c : Dev nD) : sProp 𝕄 := bigSep Finset.univ fun j : Fin 15 => dutyTok ER (kcell c (tk j).2.1) 0 (tk j).2.2

/-- What is made for device `c`. -/
def dealt (c : Dev nD) : sProp 𝕄 :=
  iprop((bigSep Finset.univ fun k : Fin 16 => roundState ER (Rd X P) (kcell c k) 0)
    ∗ ats (F := F) c ∗ (bigSep Finset.univ fun k : Fin 16 => reached ER (kcell c k) 0) ∗ made (F := F) c)

omit [FloatOps F] in
theorem over_cells (Φ : GSem nD τ sig → sProp 𝕄) :
    bigSep cells Φ = bigSep Finset.univ fun c : Dev nD => bigSep Finset.univ fun k : Fin 16 => Φ (kcell c k) := by
  unfold cells; rw [bigSep_map, bigSep_univ_prod]; rfl

omit [FloatOps F] in
theorem over_tokens : bigSep tokens (fun x => (dutyTok ER x.1 x.2.1 x.2.2 : sProp 𝕄)) = bigSep Finset.univ fun c : Dev nD => made (F := F) c := by
  unfold tokens; rw [bigSep_map, bigSep_univ_prod]; rfl

theorem made_all : BI.own (ER (initOf cells tokens)) ⊢ (|==> bigSep Finset.univ (dealt X P) : sProp 𝕄) := by
  iintro HX
  imod (Rounds.fund ER (Rd X P) cells tokens) $$ HX with ⟨Hst, Hr, Hat, Htok⟩
  imodintro
  ihave Hst := (Entails.of_eq (over_cells fun g => roundState ER (Rd X P) g 0)) $$ Hst
  ihave Hat := (Entails.of_eq ((over_cells fun g => atPos ER g 0 ∅ 0).trans
    (bigSep_congr fun c _ => (ats_eq (F := F) c).symm))) $$ Hat
  ihave Hr := (Entails.of_eq (over_cells fun g => reached ER g 0)) $$ Hr
  ihave Htok := (Entails.of_eq (over_tokens (F := F))) $$ Htok
  unfold dealt; simp only [bigSep_sep']
  isplitl [Hst]; · iexact Hst
  isplitl [Hat]; · iexact Hat
  isplitl [Hr]; · iexact Hr
  iexact Htok

/-! ## The invariants, and the tokens sent to the devices that pay with them -/

/-- From device `c`'s semaphores at zero and what is made for it: its cells' invariants. -/
theorem open_cells (c : Dev nD) :
    iprop(Pipeline.ownSems0 (Ix := Unit) (Name := ℕ) (U := UU) (Lvl := ℕ) (Val := Elt F) (τ := τ) osem c ∗ unscopedSems0 c ∗ dealt X P c)
      ⊢ |={Set.univ}=> iprop((bigSep Finset.univ fun k : Fin 16 => iprop(∃ κ : ℕ, cellInv ER (Rd X P) κ (kcell c k)))
          ∗ ats (F := F) c ∗ (bigSep Finset.univ fun k : Fin 16 => reached ER (kcell c k) 0) ∗ made (F := F) c) := by
  unfold dealt
  iintro ⟨Hos, Hus, Hst, Hrest⟩
  ihave Hv := (zeros_intro (F := F) c) $$ [Hos Hus]
  · isplitl [Hos] <;> iassumption
  ihave Hv := (Entails.of_eq (zeros_eq (F := F) c)) $$ Hv
  imod (show iprop((bigSep Finset.univ fun k : Fin 16 => zero (F := F) c k) ∗ bigSep Finset.univ fun k : Fin 16 => roundState ER (Rd X P) (kcell c k) 0)
      ⊢ (|={Set.univ}=> bigSep Finset.univ fun k : Fin 16 => iprop(∃ κ : ℕ, cellInv ER (Rd X P) κ (kcell c k)) : sProp 𝕄) from by
        rw [← bigSep_sep']
        exact (bigSep_mono fun k _ => (Rounds.body_intro ER (Rd X P) (kcell c k)).trans inv_alloc).trans (bigSep_fupd _ _)) $$ [Hv Hst] with Hinv
  · isplitl [Hv] <;> iassumption
  imodintro
  isplitl [Hinv]; · iexact Hinv
  iexact Hrest

/-- The tokens sent to the devices that pay with them. -/
theorem made_eq : (bigSep Finset.univ fun c : Dev nD => made (F := F) c) = bigSep Finset.univ fun c : Dev nD => (toks c : sProp 𝕄) := by
  unfold made
  rw [bigSep_univ_comm]
  refine Eq.trans (bigSep_congr fun j _ => bigSep_univ_equiv (around (tk j).1) _) ?_
  refine Eq.trans (bigSep_univ_comm _) ?_
  exact bigSep_congr fun c _ => (toks_eq c).symm

/-- What a device holds of the exchange when it starts. -/
def ghost (c : Dev nD) : sProp 𝕄 := iprop(∃ K, records X P K ∗ ats (F := F) c ∗ toks (F := F) c)

omit [FloatOps F] in
theorem with_all {J : Type} [DecidableEq J] {S : Finset J} {R : sProp 𝕄} [BI.Persistent R] {Φ Ψ : J → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem ghost_intro (K : Dev nD × Fin 16 → ℕ) (c : Dev nD) :
    iprop(records X P K ∗ (ats (F := F) c ∗ toks (F := F) c)) ⊢ ghost X P c := by
  unfold ghost
  iintro H
  iexists K
  iexact H

theorem share_out :
    (bigSep Finset.univ fun c : Dev nD => iprop((bigSep Finset.univ fun k : Fin 16 => iprop(∃ κ : ℕ, cellInv ER (Rd X P) κ (kcell c k)))
          ∗ ats (F := F) c ∗ (bigSep Finset.univ fun k : Fin 16 => reached ER (kcell c k) 0) ∗ made (F := F) c) : sProp 𝕄)
      ⊢ bigSep Finset.univ (ghost X P) := by
  rw [bigSep_sep', bigSep_sep', bigSep_sep', made_eq,
    ← bigSep_univ_prod (fun ck : Dev nD × Fin 16 => iprop(∃ κ : ℕ, cellInv ER (Rd X P) κ (kcell ck.1 ck.2))),
    ← bigSep_univ_prod (fun ck : Dev nD × Fin 16 => (reached ER (kcell ck.1 ck.2) 0 : sProp 𝕄))]
  iintro ⟨HI, Hat, #HR, Htok⟩
  ihave HK := (BI.bigSep_exists_pi Finset.univ (fun (ck : Dev nD × Fin 16) (κ : ℕ) => (cellInv ER (Rd X P) κ (kcell ck.1 ck.2) : sProp 𝕄))) $$ HI
  icases HK with ⟨%K, #HI⟩
  iapply (with_all (R := records X P K) fun c _ => ghost_intro X P K c)
  isplitr
  · unfold records; isplitl; · iexact HI
    iexact HR
  · iapply (Entails.of_eq (bigSep_sep' Finset.univ (fun c : Dev nD => (ats c : sProp 𝕄)) (fun c => toks c)).symm)
    isplitl [Hat]; · iexact Hat
    iexact Htok

/-- From every device's semaphores at zero and what is made for it: what every device starts from. -/
theorem deal :
    (bigSep Finset.univ fun c => iprop(Pipeline.ownSems0 (Ix := Unit) (Name := ℕ) (U := UU) (Lvl := ℕ) (Val := Elt F) (τ := τ) osem c
        ∗ unscopedSems0 c ∗ dealt X P c) : sProp 𝕄)
      ⊢ |={Set.univ}=> bigSep Finset.univ (ghost X P) :=
  ((bigSep_mono fun c _ => open_cells X P c).trans (bigSep_fupd _ _)).trans (BI.fupd_mono (share_out X P))

/-! ## The credits -/

/-- What all the devices owe cell `k` of device `c` for one of their debts. -/
theorem debt_sum (o : Fin 4) (k' k : Fin 16) (c : Dev nD) :
    (∑ d : Dev nD, (tallyAt (kcell (peer o d) k') () (amt k') : CellTallies nD τ sig Unit) (kcell c k) ()) = if k' = k then amt k else 0 := by
  refine ((around o).sum_comp fun d => (tallyAt (kcell d k') () (amt k') : CellTallies nD τ sig Unit) (kcell c k) ()).trans ?_
  by_cases h : k' = k
  · subst h
    rw [if_pos rfl]
    refine (Finset.sum_congr rfl fun d _ => ?_).trans ((Finset.sum_ite_eq Finset.univ c fun _ => amt k').trans (if_pos (Finset.mem_univ _)))
    rw [tallyAt_apply]
    by_cases e : c = d
    · rw [if_pos ⟨by rw [e], rfl⟩, if_pos e]
    · rw [if_neg fun h' => e (kcell_inj h'.1).1, if_neg e]
  · rw [if_neg h]
    refine Finset.sum_eq_zero fun d _ => ?_
    rw [tallyAt_apply, if_neg fun h' => h (kcell_inj h'.1).2.symm]

theorem owed_sum (k : Fin 16) (c : Dev nD) (n : ℕ) :
    (∑ d : Dev nD, Orem d n (kcell c k) ()) = ∑ j ∈ Finset.range n, if (debt j).2 = k then amt k else 0 := by
  induction n with
  | zero => rw [Finset.range_zero, Finset.sum_empty]; exact Finset.sum_eq_zero fun d _ => rfl
  | succ n ih =>
    rw [Finset.sum_range_succ, ← ih, ← debt_sum (debt n).1 (debt n).2 k c, ← Finset.sum_add_distrib]
    exact Finset.sum_congr rfl fun d _ => by rw [Orem, Pi.add_apply, Finsupp.add_apply]

/-- The cells whose credit is there at launch. -/
def rcv : Fin 7 → Fin 16 := ![0, 5, 6, 7, 12, 13, 14]
theorem rcv_inj : Function.Injective rcv := by decide
theorem rcv_count : ∀ i, ((Finset.range 9).filter fun j => (debt j).2 = rcv i).card = (duty (rcv i)).card := by decide

theorem owed_rcv (i : Fin 7) (c : Dev nD) : (∑ d : Dev nD, Orem d 9 (kcell c (rcv i)) ()) = credit (rcv i) := by
  rw [owed_sum, ← Finset.sum_filter, Finset.sum_const, rcv_count, smul_eq_mul, credit]

omit [FloatOps F] in
theorem credit_rcv (i : Fin 7) (c : Dev nD) :
    tallyOn (kcell c (rcv i)) (launchCredit (Pipeline.owing fun c => Orem c 9) 0 (kcell c (rcv i)))
      = (tallyAt (kcell c (rcv i)) () (credit (rcv i)) : CellTallies nD τ sig Unit) := by
  unfold tallyAt; refine congrArg _ (Finsupp.ext fun u => ?_); cases u
  rw [Pipeline.launchCredit_owing, Finsupp.single_eq_same]
  exact owed_rcv i c

theorem crs_eq (c : Dev nD) : (crs c : sProp 𝕄) = bigSep Finset.univ fun i : Fin 7 => cr (F := F) c (rcv i) := by
  rw [fin7_sep]; rfl

/-- The launch's credit holds what a device's waits spend. -/
theorem crs_intro (c : Dev nD) : (Pipeline.launchCred (fun c => Orem c 9) c : sProp 𝕄) ⊢ crs c := by
  unfold Pipeline.launchCred
  rw [crs_eq]
  refine (bigSep_subset (Finset.subset_univ (Finset.univ.map ⟨fun i => csem (rcv i), fun a b h => rcv_inj (csem_inj h)⟩))).trans ?_
  rw [bigSep_map]
  exact Entails.of_eq (bigSep_congr fun i _ => congrArg cred (credit_rcv i c))

end Cert.Proof
-- ==== Proof.Body.lean ====
/-
  The kernel's run on one device, from its buffers and its part of the exchange to the result in place and every semaphore
  at zero: one rule per step, in program order.
-/
module

public import proofs.«01_k».proof.Proof.Exchange

@[expose] public section

set_option maxRecDepth 16384

noncomputable section

namespace Cert.Proof

open Cert.KernelIdeal
open Cert.KernelIdeal.Facts₀ Cert.KernelIdeal.Facts
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → Ins F) (K : Dev nD × Fin 16 → ℕ)

theorem bar0 (c : Dev nD) : barPay (F := F) c 0 = iprop(anyBlock (F := F) (peer 1 c) (comm 3) ∗ anyBlock (F := F) (peer 1 c) (rs 0)) := rfl
theorem bar1 (c : Dev nD) : barPay (F := F) c 1 = iprop(anyBlock (F := F) (peer 3 c) (comm 1) ∗ anyBlock (F := F) (peer 3 c) (rs 1)) := rfl
theorem bar2 (c : Dev nD) : barPay (F := F) c 2 = iprop(anyBlock (F := F) (peer 2 c) (comm 2) ∗ anyBlock (F := F) (peer 2 c) (rs 2)) := rfl

theorem acts_eq (c : Dev nD) : block c (comm 0) fullShare (I c).x = block c (comm 0) fullShare (acts I c) := rfl

theorem out_eq (c : Dev nD) : holds (F := F) c cc0_stg5_0 (Gen.k0_pay305
    (Gen.k0_pay304 (shapeCast S1x2x128x512 (parts I c 0) shapeCasts_S2x128x512_S1x2x128x512)
      (shapeCast S1x2x128x512 (parts I (peer 1 c) 3) shapeCasts_S2x128x512_S1x2x128x512))
    (shapeCast S1x2x128x512 (parts I (peer 3 c) 1) shapeCasts_S2x128x512_S1x2x128x512)
    (shapeCast S1x2x128x512 (parts I (peer 2 c) 2) shapeCasts_S2x128x512_S1x2x128x512)) = holds c cc0_stg5_0 (outOf I c) := rfl

/-- A cell that is never used closes as it is. -/
theorem close_at (c : Dev nD) (k : Fin 16) (h : duty k = ∅) :
    iprop(records (acts I) (parts I) K ∗ at' (F := F) c k) ⊢ iprop(|={Set.univ}=> zero (F := F) c k) :=
  close_unused (acts I) (parts I) K c k h

attribute [local irreducible] chunk fill parts outOf acts some' anyBlock work records owing tok at' cr zero barPay wqkvOf in
set_option maxHeartbeats 4000000 in
/-- The run, from the device's number on. -/
theorem runs_main (c : Dev nD) (Q : PUnit → sProp 𝕄) :
    iprop(bodyPre I K c ∗ (bodyPost I c -∗ Q ⟨⟩)) ⊢ Runs c (mainOf c) Q := by
  unfold mainOf bodyPre toks ats crs scratch insHeld
  iintro ⟨⟨#HR, #HL, ⟨t0, t1, t2, t3, t4, t5, t6, t7, t8, t9, t10, t11, t12, t13, t14⟩,
    ⟨a0, a1, a2, a3, a4, a5, a6, a7, a8, a9, a10, a11, a12, a13, a14, a15⟩, ⟨e0, e5, e6, e7, e12, e13, e14⟩, HO,
    ⟨S0, S1, S2, S3, SW⟩, ⟨Hx, Hq, Ho, Hk, Hv⟩, Hout⟩, HQ⟩
  imod (close_at I K c 4 (by decide)) $$ [a4] with z4
  · isplitr; · iexact HR
    iexact a4
  imod (close_at I K c 11 (by decide)) $$ [a11] with z11
  · isplitr; · iexact HR
    iexact a11
  imod (close_at I K c 15 (by decide)) $$ [a15] with z15
  · isplitr; · iexact HR
    iexact a15
  ihave S0 := (comm_split c) $$ S0
  icases S0 with ⟨c0, c1, c2, c3⟩
  ihave S1 := (part_split c) $$ S1
  icases S1 with ⟨p0, p1, p2, p3⟩
  ihave S2 := (rs_split c) $$ S2
  icases S2 with ⟨r0, r1, r2⟩
  rw [wp_bind, dev1 c]
  iapply (runs_signal (acts I) (parts I) K c (peer 3 c) 8 3 0 0 rfl rfl rfl)
  isplitr; · iexact HR
  isplitl [HO]; · iexact HO
  isplitl [t0]; · iexact t0
  isplitl [c3 r0]
  · iapply (hand0 (F := F) c)
    isplitl [c3]; · iexact c3
    iexact r0
  iintro HO
  rw [wp_bind, dev2 c]
  iapply (runs_signal (acts I) (parts I) K c (peer 1 c) 7 1 1 1 rfl rfl rfl)
  isplitr; · iexact HR
  isplitl [HO]; · iexact HO
  isplitl [t1]; · iexact t1
  isplitl [c1 r1]
  · iapply (hand1 (F := F) c)
    isplitl [c1]; · iexact c1
    iexact r1
  iintro HO
  rw [wp_bind, dev3 c]
  iapply (runs_signal (acts I) (parts I) K c (peer 2 c) 6 2 2 2 rfl rfl rfl)
  isplitr; · iexact HR
  isplitl [HO]; · iexact HO
  isplitl [t2]; · iexact t2
  isplitl [c2 r2]
  · iapply (hand2 (F := F) c)
    isplitl [c2]; · iexact c2
    iexact r2
  iintro HO
  rw [wp_bind]
  iapply (runs_fill c (I c).x (I c).wq (I c).wk (I c).wv)
  isplitl [Hx]; · iexact Hx
  isplitl [Hq]; · iexact Hq
  isplitl [Hk]; · iexact Hk
  isplitl [Hv]; · iexact Hv
  isplitl [c0]; · iexact c0
  isplitl [S3]; · iexact S3
  iintro ⟨Hx, Hq, Hk, Hv, c0, HW⟩
  rw [wp_bind]
  iapply (runs_waitBar K (acts I) (parts I) c)
  isplitr; · iexact HR
  isplitr; · iexact HL
  isplitl [HO]; · iexact HO
  isplitl [e0]; · iexact e0
  isplitl [a0]; · iexact a0
  iintro ⟨HO, z0, b0, b1, b2⟩
  ihave b0 := (Entails.of_eq (bar0 (F := F) c)) $$ b0
  icases b0 with ⟨c3, r0⟩
  ihave b1 := (Entails.of_eq (bar1 (F := F) c)) $$ b1
  icases b1 with ⟨c1, r1⟩
  ihave b2 := (Entails.of_eq (bar2 (F := F) c)) $$ b2
  icases b2 with ⟨c2, r2⟩
  ihave c0 := (Entails.of_eq (acts_eq I c)) $$ c0
  ihave c0 := (shares_split c (comm 0) (acts I c)) $$ c0
  icases c0 with ⟨⟨l0, l1⟩, l2, c0⟩
  rw [wp_bind, dev4 c]
  iapply (runs_agCopy I K c (peer 3 c) 1 0 5 3 1 5 3 6 rfl rfl rfl rfl rfl rfl rfl rfl rfl (by decide) (lent 0) (BI.Entails.refl _)
    (by show _ ⊢ block (peer 3 c) (comm 1) fullShare (acts I (peer 1 (peer 3 c))); rw [back31]))
  isplitr; · iexact HR
  isplitl [HO]; · iexact HO
  isplitl [t3]; · iexact t3
  isplitl [t6]; · iexact t6
  isplitl [l0]; · iexact l0
  isplitl [c1]; · iexact c1
  iintro ⟨HO, e1⟩
  rw [wp_bind, dev5 c]
  iapply (runs_agCopy I K c (peer 1 c) 3 1 4 1 2 7 4 7 rfl rfl rfl rfl rfl rfl rfl rfl rfl (by decide) (lent 1) (BI.Entails.refl _)
    (by show _ ⊢ block (peer 1 c) (comm 3) fullShare (acts I (peer 3 (peer 1 c))); rw [back13]))
  isplitr; · iexact HR
  isplitl [HO]; · iexact HO
  isplitl [t4]; · iexact t4
  isplitl [t7]; · iexact t7
  isplitl [l1]; · iexact l1
  isplitl [c3]; · iexact c3
  iintro ⟨HO, e2⟩
  rw [wp_bind, dev6 c]
  iapply (runs_agCopy I K c (peer 2 c) 2 2 3 2 3 6 5 8 rfl rfl rfl rfl rfl rfl rfl rfl rfl (by decide) (lent 2) (BI.Entails.refl _)
    (by show _ ⊢ block (peer 2 c) (comm 2) fullShare (acts I (peer 2 (peer 2 c))); rw [back22]))
  isplitr; · iexact HR
  isplitl [HO]; · iexact HO
  isplitl [t5]; · iexact t5
  isplitl [t8]; · iexact t8
  isplitl [l2]; · iexact l2
  isplitl [c2]; · iexact c2
  iintro ⟨HO, e3⟩
  unfold getS
  rw [wp_bind]
  iapply (runs_loadU c); isplitl [Ho]; · iexact Ho
  iintro Ho
  have eo : woM.view.readAt (Elt F) rectAllS.toLoadRect (I c).wo = (I c).wo := Memref.readAt_unit_zero (Elt F) cc0_stg2_0 hz2 _ (I c).wo
  rw [eo]
  rw [wp_bind]
  iapply (runs_chunkOf I c 0 (fullShare.right.right) (acts I c) (by rw [peer_zero]))
  isplitl [c0]; · iexact c0
  isplitl [HW]; · iexact HW
  isplitl [SW]; · iexact SW
  isplitl [p0]; · iexact p0
  iintro ⟨c0, HW, SW, p0⟩
  unfold agWaitRecv
  rw [wp_bind]
  iapply (runs_waitDma K (acts I) (parts I) c 7 3 (agRecv 3) (comm 0) (comm 3) rfl rfl rfl rfl (by decide) (block c (comm 3) fullShare (acts I (peer 3 c))) rfl)
  isplitr; · iexact HR
  isplitr; · iexact HL
  isplitl [HO]; · iexact HO
  isplitl [e7]; · iexact e7
  isplitl [a7]; · iexact a7
  iintro ⟨HO, z7, c3⟩
  rw [wp_bind]
  iapply (runs_chunkOf I c 3 (fullShare) (acts I (peer 3 c)) (rfl))
  isplitl [c3]; · iexact c3
  isplitl [HW]; · iexact HW
  isplitl [SW]; · iexact SW
  isplitl [p3]; · iexact p3
  iintro ⟨c3, HW, SW, p3⟩
  rw [wp_bind, dev7 c]
  iapply (runs_rsCopy I K c (peer 3 c) 3 1 2 3 9 13 10 13 rfl rfl rfl rfl rfl rfl rfl rfl rfl (by decide) (BI.Entails.refl _)
    (by show _ ⊢ block (peer 3 c) (rs 1) fullShare (parts I (peer 1 (peer 3 c)) 3); rw [back31]))
  isplitr; · iexact HR
  isplitl [HO]; · iexact HO
  isplitl [t10]; · iexact t10
  isplitl [t13]; · iexact t13
  isplitl [p3]; · iexact p3
  isplitl [r1]; · iexact r1
  iintro ⟨HO, e9⟩
  rw [wp_bind]
  iapply (runs_waitDma K (acts I) (parts I) c 5 2 (agRecv 1) (comm 0) (comm 1) rfl rfl rfl rfl (by decide) (block c (comm 1) fullShare (acts I (peer 1 c))) rfl)
  isplitr; · iexact HR
  isplitr; · iexact HL
  isplitl [HO]; · iexact HO
  isplitl [e5]; · iexact e5
  isplitl [a5]; · iexact a5
  iintro ⟨HO, z5, c1⟩
  rw [wp_bind]
  iapply (runs_chunkOf I c 1 (fullShare) (acts I (peer 1 c)) (rfl))
  isplitl [c1]; · iexact c1
  isplitl [HW]; · iexact HW
  isplitl [SW]; · iexact SW
  isplitl [p1]; · iexact p1
  iintro ⟨c1, HW, SW, p1⟩
  rw [wp_bind, dev8 c]
  iapply (runs_rsCopy I K c (peer 1 c) 1 0 1 1 8 12 9 12 rfl rfl rfl rfl rfl rfl rfl rfl rfl (by decide) (BI.Entails.refl _)
    (by show _ ⊢ block (peer 1 c) (rs 0) fullShare (parts I (peer 3 (peer 1 c)) 1); rw [back13]))
  isplitr; · iexact HR
  isplitl [HO]; · iexact HO
  isplitl [t9]; · iexact t9
  isplitl [t12]; · iexact t12
  isplitl [p1]; · iexact p1
  isplitl [r0]; · iexact r0
  iintro ⟨HO, e8⟩
  rw [wp_bind]
  iapply (runs_waitDma K (acts I) (parts I) c 6 1 (agRecv 2) (comm 0) (comm 2) rfl rfl rfl rfl (by decide) (block c (comm 2) fullShare (acts I (peer 2 c))) rfl)
  isplitr; · iexact HR
  isplitr; · iexact HL
  isplitl [HO]; · iexact HO
  isplitl [e6]; · iexact e6
  isplitl [a6]; · iexact a6
  iintro ⟨HO, z6, c2⟩
  rw [wp_bind]
  iapply (runs_chunkOf I c 2 (fullShare) (acts I (peer 2 c)) (rfl))
  isplitl [c2]; · iexact c2
  isplitl [HW]; · iexact HW
  isplitl [SW]; · iexact SW
  isplitl [p2]; · iexact p2
  iintro ⟨c2, HW, SW, p2⟩
  rw [wp_bind, dev9 c]
  iapply (runs_rsCopy I K c (peer 2 c) 2 2 0 2 10 14 11 14 rfl rfl rfl rfl rfl rfl rfl rfl rfl (by decide) (BI.Entails.refl _)
    (by show _ ⊢ block (peer 2 c) (rs 2) fullShare (parts I (peer 2 (peer 2 c)) 2); rw [back22]))
  isplitr; · iexact HR
  isplitl [HO]; · iexact HO
  isplitl [t11]; · iexact t11
  isplitl [t14]; · iexact t14
  isplitl [p2]; · iexact p2
  isplitl [r2]; · iexact r2
  iintro ⟨HO, e10⟩
  rw [wp_bind]
  unfold reduce rsWaitRecv
  rw [wp_bind]
  iapply (runs_waitDma K (acts I) (parts I) c 13 0 (rsRecv (1 : Fin 3).castSucc) (part 0) (rs 1) rfl rfl rfl rfl (by decide) (block c (rs 1) fullShare (parts I (peer 1 c) 3)) rfl)
  isplitr; · iexact HR
  isplitr; · iexact HL
  isplitl [HO]; · iexact HO
  isplitl [e13]; · iexact e13
  isplitl [a13]; · iexact a13
  iintro ⟨HO, z13, r1⟩
  rw [wp_bind]
  iapply (runs_loadPart c 0 fullShare); isplitl [p0]; · iexact p0
  iintro p0
  rw [wp_bind]
  iapply (runs_loadRs c 1 fullShare); isplitl [r1]; · iexact r1
  iintro r1
  rw [wp_bind]
  iapply (runs_waitDma K (acts I) (parts I) c 12 0 (rsRecv (0 : Fin 3).castSucc) (part 0) (rs 0) rfl rfl rfl rfl (by decide) (block c (rs 0) fullShare (parts I (peer 3 c) 1)) rfl)
  isplitr; · iexact HR
  isplitr; · iexact HL
  isplitl [HO]; · iexact HO
  isplitl [e12]; · iexact e12
  isplitl [a12]; · iexact a12
  iintro ⟨HO, z12, r0⟩
  rw [wp_bind]
  iapply (runs_loadRs c 0 fullShare); isplitl [r0]; · iexact r0
  iintro r0
  rw [wp_bind]
  iapply (runs_waitDma K (acts I) (parts I) c 14 0 (rsRecv (2 : Fin 3).castSucc) (part 0) (rs 2) rfl rfl rfl rfl (by decide) (block c (rs 2) fullShare (parts I (peer 2 c) 2)) rfl)
  isplitr; · iexact HR
  isplitr; · iexact HL
  isplitl [HO]; · iexact HO
  isplitl [e14]; · iexact e14
  isplitl [a14]; · iexact a14
  iintro ⟨HO, z14, r2⟩
  rw [wp_bind]
  iapply (runs_loadRs c 2 fullShare); isplitl [r2]; · iexact r2
  iintro r2
  iapply (runs_putOut c); isplitl [Hout]; · iexact Hout
  iintro Hout
  ihave Hout := (Entails.of_eq (out_eq I c)) $$ Hout
  unfold agWaitSend rsWaitSend
  rw [wp_bind]
  iapply (runs_waitDma K (acts I) (parts I) c 1 0 (agSend 0) (comm 1) (comm 0) rfl rfl rfl rfl (by decide) (block c (comm 0) (lent 0) (acts I c)) rfl)
  isplitr; · iexact HR
  isplitr; · iexact HL
  isplitl [HO]; · iexact HO
  isplitl [e1]; · iexact e1
  isplitl [a1]; · iexact a1
  iintro ⟨HO, z1, l0⟩
  rw [wp_bind]
  iapply (runs_waitDma K (acts I) (parts I) c 2 0 (agSend 1) (comm 3) (comm 0) rfl rfl rfl rfl (by decide) (block c (comm 0) (lent 1) (acts I c)) rfl)
  isplitr; · iexact HR
  isplitr; · iexact HL
  isplitl [HO]; · iexact HO
  isplitl [e2]; · iexact e2
  isplitl [a2]; · iexact a2
  iintro ⟨HO, z2, l1⟩
  rw [wp_bind]
  iapply (runs_waitDma K (acts I) (parts I) c 3 0 (agSend 2) (comm 2) (comm 0) rfl rfl rfl rfl (by decide) (block c (comm 0) (lent 2) (acts I c)) rfl)
  isplitr; · iexact HR
  isplitr; · iexact HL
  isplitl [HO]; · iexact HO
  isplitl [e3]; · iexact e3
  isplitl [a3]; · iexact a3
  iintro ⟨HO, z3, l2⟩
  rw [wp_bind]
  iapply (runs_waitDma K (acts I) (parts I) c 8 0 (rsSend (0 : Fin 3).castSucc) (rs 0) (part 1) rfl rfl rfl rfl (by decide) (block c (part 1) fullShare (parts I c 1)) rfl)
  isplitr; · iexact HR
  isplitr; · iexact HL
  isplitl [HO]; · iexact HO
  isplitl [e8]; · iexact e8
  isplitl [a8]; · iexact a8
  iintro ⟨HO, z8, p1⟩
  rw [wp_bind]
  iapply (runs_waitDma K (acts I) (parts I) c 9 0 (rsSend (1 : Fin 3).castSucc) (rs 1) (part 3) rfl rfl rfl rfl (by decide) (block c (part 3) fullShare (parts I c 3)) rfl)
  isplitr; · iexact HR
  isplitr; · iexact HL
  isplitl [HO]; · iexact HO
  isplitl [e9]; · iexact e9
  isplitl [a9]; · iexact a9
  iintro ⟨HO, z9, p3⟩
  iapply (runs_waitDma K (acts I) (parts I) c 10 0 (rsSend (2 : Fin 3).castSucc) (rs 2) (part 2) rfl rfl rfl rfl (by decide) (block c (part 2) fullShare (parts I c 2)) rfl)
  isplitr; · iexact HR
  isplitr; · iexact HL
  isplitl [HO]; · iexact HO
  isplitl [e10]; · iexact e10
  isplitl [a10]; · iexact a10
  iintro ⟨HO, z10, p2⟩
  iapply HQ
  unfold bodyPost zeros scratch insHeld
  isplitl [z0 z1 z2 z3 z4 z5 z6 z7 z8 z9 z10 z11 z12 z13 z14 z15]
  · isplitl [z0]; · iexact z0
    isplitl [z1]; · iexact z1
    isplitl [z2]; · iexact z2
    isplitl [z3]; · iexact z3
    isplitl [z4]; · iexact z4
    isplitl [z5]; · iexact z5
    isplitl [z6]; · iexact z6
    isplitl [z7]; · iexact z7
    isplitl [z8]; · iexact z8
    isplitl [z9]; · iexact z9
    isplitl [z10]; · iexact z10
    isplitl [z11]; · iexact z11
    isplitl [z12]; · iexact z12
    isplitl [z13]; · iexact z13
    isplitl [z14]; · iexact z14
    iexact z15
  isplitl [HO]; · iexact HO
  isplitl [c0 c1 c2 c3 l0 l1 l2 p0 p1 p2 p3 r0 r1 r2 HW SW]
  · isplitl [c0 c1 c2 c3 l0 l1 l2]
    · iapply (comm_join c)
      isplitl [c0 l0 l1 l2]
      · iapply (any_of c (comm 0) (acts I c))
        iapply (shares_join c (comm 0) (acts I c))
        isplitl [l0 l1]
        · isplitl [l0]; · iexact l0
          iexact l1
        isplitl [l2]; · iexact l2
        iexact c0
      isplitl [c1]; · iapply (any_of c (comm 1)); iexact c1
      isplitl [c2]; · iapply (any_of c (comm 2)); iexact c2
      iapply (any_of c (comm 3)); iexact c3
    isplitl [p0 p1 p2 p3]
    · iapply (part_join c)
      isplitl [p0]; · iapply (any_of c (part 0)); iexact p0
      isplitl [p1]; · iapply (any_of c (part 1)); iexact p1
      isplitl [p2]; · iapply (any_of c (part 2)); iexact p2
      iapply (any_of c (part 3)); iexact p3
    isplitl [r0 r1 r2]
    · iapply (rs_join c)
      isplitl [r0]; · iapply (any_of c (rs 0)); iexact r0
      isplitl [r1]; · iapply (any_of c (rs 1)); iexact r1
      iapply (any_of c (rs 2)); iexact r2
    isplitl [HW]
    · unfold some'
      iexists _; iexact HW
    iexact SW
  isplitl [Hx Hq Ho Hk Hv]
  · isplitl [Hx]; · iexact Hx
    isplitl [Hq]; · iexact Hq
    isplitl [Ho]; · iexact Ho
    isplitl [Hk]; · iexact Hk
    iexact Hv
  iexact Hout

end Cert.Proof
-- ==== Proof.Launch.lean ====
/-
  The whole run: the four devices launched, each running the kernel on its blocks of the operands, from any memory and
  over any float values.  It ends with every operand as it was, the result of every device the one of `Exchange`, and every
  semaphore back at zero.
-/
module

public import proofs.«01_k».proof.Proof.Deal
public import proofs.«01_k».proof.Proof.Body
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.Quiescent
public import Idealize.ShloMosaic.Lib.Pipeline.CollectiveSegs

@[expose] public section

set_option maxRecDepth 16384

noncomputable section

namespace Cert.Proof

open Cert.KernelIdeal
open Cert.KernelIdeal.Facts₀ Cert.KernelIdeal.Facts
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents, every semaphore at zero. -/
def start : MemSt nD τ sig (Elt F) := ⟨m, fun _ => 0, ρ⟩

/-- The five operands' blocks of a device, as they are read in. -/
def ins (c : Dev nD) : Ins F where
  x := (win0_0.blk (0 : Fin 1)).view.read (Elt F) (m ((c : Thread nD τ).loc main_arg0))
  wq := (win0_1.blk (0 : Fin 1)).view.read (Elt F) (m ((c : Thread nD τ).loc main_arg1))
  wo := (win0_2.blk (0 : Fin 1)).view.read (Elt F) (m ((c : Thread nD τ).loc main_arg2))
  wk := (win0_3.blk (0 : Fin 1)).view.read (Elt F) (m ((c : Thread nD τ).loc main_arg3))
  wv := (win0_4.blk (0 : Fin 1)).view.read (Elt F) (m ((c : Thread nD τ).loc main_arg4))

/-- What a device holds when the kernel starts, besides its operands and its result's buffer. -/
def before (c : Dev nD) : sProp 𝕄 :=
  iprop(ghost (acts (ins m)) (parts (ins m)) c ∗ crs (F := F) c ∗ levAts L lv ∗ scratch (F := F) c)

/-- What it holds of these when the kernel has run. -/
def after (c : Dev nD) : sProp 𝕄 := iprop(scratch (F := F) c ∗ zeros (F := F) c)

/-- The launch's data: the operands stay, the result is the exchange's, all nine debts are paid. -/
def dats (_ : Fin 1) (c : Dev nD) : Dat τ (Elt F) Unit ℕ UU ℕ cfg0 c where
  A w := m ((cfg0.win w).arr.view.loc (c : Thread nD τ))
  after w _ := match w with
    | ⟨0, _⟩ => (ins m c).x
    | ⟨1, _⟩ => (ins m c).wq
    | ⟨2, _⟩ => (ins m c).wo
    | ⟨3, _⟩ => (ins m c).wk
    | ⟨4, _⟩ => (ins m c).wv
    | ⟨5, _⟩ => outOf (ins m) c
  Φ t := match t with
    | ⟨0, _⟩ => before m c
    | ⟨_ + 1, _⟩ => after (F := F) c
  q _ := fullShare
  owed t := match t with
    | ⟨0, _⟩ => Orem c 9
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer with given contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the kernel's run is given at its one point. -/
def given (c : Dev nD) : sProp 𝕄 :=
  iprop(before m c ∗ (dats m 0 c).owesAt () Gen.t0_0.castSucc
    ∗ (∃ d, stg (F := F) c cc0_stg0_0 ((dats m 0 c).before (0 : Fin 6) Gen.t0_0 d))
    ∗ (∃ d, stg (F := F) c cc0_stg1_0 ((dats m 0 c).before (1 : Fin 6) Gen.t0_0 d))
    ∗ (∃ d, stg (F := F) c cc0_stg2_0 ((dats m 0 c).before (2 : Fin 6) Gen.t0_0 d))
    ∗ (∃ d, stg (F := F) c cc0_stg3_0 ((dats m 0 c).before (3 : Fin 6) Gen.t0_0 d))
    ∗ (∃ d, stg (F := F) c cc0_stg4_0 ((dats m 0 c).before (4 : Fin 6) Gen.t0_0 d))
    ∗ (∃ d, stg (F := F) c cc0_stg5_0 ((dats m 0 c).before (5 : Fin 6) Gen.t0_0 d)))

/-- What it gives back. -/
def returned (c : Dev nD) : sProp 𝕄 :=
  iprop(after (F := F) c ∗ (dats m 0 c).owesAt () Gen.t0_0.succ
    ∗ stg (F := F) c cc0_stg0_0 ((dats m 0 c).after (0 : Fin 6) Gen.t0_0)
    ∗ stg (F := F) c cc0_stg1_0 ((dats m 0 c).after (1 : Fin 6) Gen.t0_0)
    ∗ stg (F := F) c cc0_stg2_0 ((dats m 0 c).after (2 : Fin 6) Gen.t0_0)
    ∗ stg (F := F) c cc0_stg3_0 ((dats m 0 c).after (3 : Fin 6) Gen.t0_0)
    ∗ stg (F := F) c cc0_stg4_0 ((dats m 0 c).after (4 : Fin 6) Gen.t0_0)
    ∗ stg (F := F) c cc0_stg5_0 ((dats m 0 c).after (5 : Fin 6) Gen.t0_0))

theorem before_x (c : Dev nD) (d) : (dats m 0 c).before (0 : Fin 6) Gen.t0_0 d = (ins m c).x := by
  unfold Dat.before; rw [if_pos (Gen.fetch0_0 Gen.t0_0)]; rfl

theorem before_wq (c : Dev nD) (d) : (dats m 0 c).before (1 : Fin 6) Gen.t0_0 d = (ins m c).wq := by
  unfold Dat.before; rw [if_pos (Gen.fetch0_1 Gen.t0_0)]; rfl

theorem before_wo (c : Dev nD) (d) : (dats m 0 c).before (2 : Fin 6) Gen.t0_0 d = (ins m c).wo := by
  unfold Dat.before; rw [if_pos (Gen.fetch0_2 Gen.t0_0)]; rfl

theorem before_wk (c : Dev nD) (d) : (dats m 0 c).before (3 : Fin 6) Gen.t0_0 d = (ins m c).wk := by
  unfold Dat.before; rw [if_pos (Gen.fetch0_3 Gen.t0_0)]; rfl

theorem before_wv (c : Dev nD) (d) : (dats m 0 c).before (4 : Fin 6) Gen.t0_0 d = (ins m c).wv := by
  unfold Dat.before; rw [if_pos (Gen.fetch0_4 Gen.t0_0)]; rfl

theorem owing_start (c : Dev nD) : (dats m 0 c).owesAt () Gen.t0_0.castSucc ⊢ owing (F := F) c 9 := by
  unfold Dat.owesAt Pipeline.owesWithin owing
  rw [show (dats m 0 c).owed Gen.t0_0.castSucc = Orem c 9 from rfl]
  iintro ⟨%W, %hW, HO⟩
  iexists W
  iexact HO

theorem owing_end (c : Dev nD) : owing (F := F) c 0 ⊢ (dats m 0 c).owesAt () Gen.t0_0.succ := by
  unfold Dat.owesAt Pipeline.owesWithin owing
  rw [show (dats m 0 c).owed Gen.t0_0.succ = Orem c 0 from rfl]
  iintro ⟨%W, HO⟩
  iexists W
  isplitr; · ipureintro; exact fun _ _ => Or.inl trivial
  iexact HO

/-- The kernel's run from what the launch gives it. -/
theorem runs_flat (c : Dev nD) : given m c ⊢ Runs c (flat (F := F)) (fun _ => returned m c) := by
  unfold flat
  rw [runs_bind]
  have e : ∀ K : Dev nD → sProp 𝕄, Runs c (Prog.lift .deviceId) K = iprop(|={Set.univ}=> K c) := fun K => by
    unfold Runs Prog.lift
    rw [wp_deviceId, wp_ret]
  rw [e]
  unfold given before ghost
  iintro ⟨⟨⟨%K, #HR, Hat, Htok⟩, Hcr, Hlev, Hscr⟩, Ho, ⟨%d0, %g0, %h0, H0⟩, ⟨%d1, %g1, %h1, H1⟩, ⟨%d2, %g2, %h2, H2⟩, ⟨%d3, %g3, %h3, H3⟩, ⟨%d4, %g4, %h4, H4⟩, ⟨%d5, %g5, %h5, H5⟩⟩
  rw [before_x] at h0
  rw [before_wq] at h1
  rw [before_wo] at h2
  rw [before_wk] at h3
  rw [before_wv] at h4
  subst h0
  subst h1
  subst h2
  subst h3
  subst h4
  ihave Ho := (owing_start m c) $$ Ho
  imodintro
  iapply (runs_main (ins m) K c fun _ => returned m c)
  isplitl
  · unfold bodyPre insHeld
    isplitr; · iexact HR
    isplitl [Hlev]; · iexact Hlev
    isplitl [Htok]; · iexact Htok
    isplitl [Hat]; · iexact Hat
    isplitl [Hcr]; · iexact Hcr
    isplitl [Ho]; · iexact Ho
    isplitl [Hscr]; · iexact Hscr
    isplitl [H0 H1 H2 H3 H4]
    · isplitl [H0]; · iexact H0
      isplitl [H1]; · iexact H1
      isplitl [H2]; · iexact H2
      isplitl [H3]; · iexact H3
      iexact H4
    unfold some'
    iexists g5
    iexact H5
  · unfold bodyPost insHeld returned after
    iintro ⟨Hz, Ho, Hscr, ⟨H0, H1, H2, H3, H4⟩, H5⟩
    ihave Ho := (owing_end m c) $$ Ho
    isplitl [Hscr Hz]
    · isplitl [Hscr] <;> iassumption
    isplitl [Ho]; · iexact Ho
    isplitl [H0]
    · iexists _; isplitr; · (ipureintro; rfl)
      iexact H0
    isplitl [H1]
    · iexists _; isplitr; · (ipureintro; rfl)
      iexact H1
    isplitl [H2]
    · iexists _; isplitr; · (ipureintro; rfl)
      iexact H2
    isplitl [H3]
    · iexists _; isplitr; · (ipureintro; rfl)
      iexact H3
    isplitl [H4]
    · iexists _; isplitr; · (ipureintro; rfl)
      iexact H4
    iexists _; isplitr; · (ipureintro; rfl)
    iexact H5

omit [FloatOps F] in
theorem bigSep_W (Φ : Fin cfg0.W → sProp 𝕄) : bigSep Finset.univ Φ
    = iprop(Φ (0 : Fin 6) ∗ Φ (1 : Fin 6) ∗ Φ (2 : Fin 6) ∗ Φ (3 : Fin 6) ∗ Φ (4 : Fin 6) ∗ Φ (5 : Fin 6)) := Gen.bigSep_W0 Φ

/-- The kernel at its one point. -/
theorem body_obligation (c : Dev nD) : BodyObligation (dats (F := F) m 0 c) (defs₀ (F := F)) 𝒱₀ () Set.univ := fun t => by
  rw [Gen.fin_N0 t]
  rw [bigSep_W, bigSep_W]
  simp only [owns_whole_eq]
  show given m c ⊢ Runs c (Gen.bodyAt0 (F := F) Gen.t0_0) (fun _ => returned m c)
  rw [body_eq]
  exact runs_flat m c

theorem share_eq (c : Dev nD) (w : Fin cfg0.W) : (dats m 0 c).share w = fullShare := by unfold Dat.share; split <;> rfl

/-! ## The launch's conditions -/

theorem before_intro (c : Dev nD) :
    iprop(Pipeline.unscopedRestP Pipeline.Prefetch.none cfg0.spec c (fun b => m ((c : Thread nD τ).loc b)) ∗ levAts L lv
        ∗ Pipeline.launchCred (fun c => Orem c 9) c ∗ prngReg c (ρ c) ∗ ghost (acts (ins m)) (parts (ins m)) c)
      ⊢ |={Set.univ}=> iprop((ghost (acts (ins m)) (parts (ins m)) c ∗ crs (F := F) c ∗ levAts L lv) ∗ emp) := by
  iintro ⟨-, Hlev, Hcr, -, HG⟩
  ihave Hc := (crs_intro (F := F) c) $$ Hcr
  imodintro
  isplitl
  · isplitl [HG]; · iexact HG
    isplitl [Hc]; · iexact Hc
    iexact Hlev
  · iempintro

omit [FloatOps F] in
/-- The buffers that are no window's: the kernel's own. -/
theorem scratch_eq (c : Dev nD) :
    (Pipeline.scopedRest (Ix := Unit) (Name := ℕ) (U := UU) (Lvl := ℕ) (Val := Elt F) cfg0.spec c : sProp 𝕄) ⊣⊢ scratch (F := F) c := by
  rw [Gen.scopedRest0_eq]; exact ⟨BI.Entails.refl _, BI.Entails.refl _⟩

theorem phi_start (c : Dev nD) :
    iprop((ghost (acts (ins m)) (parts (ins m)) c ∗ crs (F := F) c ∗ levAts L lv)
        ∗ Pipeline.prefHeld Pipeline.Prefetch.none c (fun _ => fullShare.right) (fun k => k.elim0) ∗ Pipeline.scopedRest cfg0.spec c)
      ⊢ (dats m 0 c).Φ 0 := by
  rw [show (dats m 0 c).Φ 0 = before m c from rfl]
  unfold before
  iintro ⟨⟨HG, Hc, Hlev⟩, -, Hr⟩
  isplitl [HG]; · iexact HG
  isplitl [Hc]; · iexact Hc
  isplitl [Hlev]; · iexact Hlev
  iapply (scratch_eq (F := F) c).1
  iexact Hr

theorem phi_end (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = after (F := F) c from rfl]
  unfold after
  iintro ⟨Hr, Hz⟩
  ihave Hz := (zeros_elim (F := F) c) $$ Hz
  icases Hz with ⟨HB, HS⟩
  isplitl [HB]; · iexact HB
  isplitl [HS]; · iexact HS
  iapply (scratch_eq (F := F) c).2
  iexact Hr

theorem stage_level : ∀ (w : Fin cfg0.W) (s : Fin (cfg0.win w).nbuf), slv (.dma ((cfg0.win w).sem s)) = 0 := by decide

theorem debts_above : ∀ j, j < 9 → 0 < lvl (debt j).2 := by decide

theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact mayWait c _ 9 fun j hj => (stage_level w s).symm ▸ debts_above j hj
    · exact mayWait c _ 0 fun j hj => absurd hj (Nat.not_lt_zero j)

/-- What is made at launch: the pipeline's, and the exchange's. -/
def u₀ : UU := (initOf (Pipeline.cells cfgs Gen.cellOf_inj) (Pipeline.launchToks cfgs Gen.cellOf_inj), initOf cells tokens)

/-! ## The run -/

/-- The contents window `w`'s array ends with. -/
def finalA (c : Dev nD) (w : Fin cfg0.W) : Buf (Elt F) ((cfg0.win w).arr.view.loc (c : Thread nD τ)) := (dats m 0 c).arrAt w cfg0.N

/-- Every execution terminates, with the windows' arrays at those contents and every semaphore at zero. -/
theorem run_main : θ_run defs (onTc (τ := τ) (main (F := F))) (start m ρ) (fun r =>
    (∀ c : Dev nD, ∀ w : Fin cfg0.W, r.2.mem ((cfg0.win w).arr.view.loc (c : Thread nD τ)) = finalA m c w) ∧ r.2.sem = fun _ => 0) :=
  Pipeline.θ_run_region_owing_glob_pf (fun p => (cfgs p).toPCfg) (fun p => (cfgs p).toPCfg_adm) (dats m) () Gen.cellOf_inj (0 : Fin 1)
    Gen.winFacts0.to₀ ownSemFacts (Pipeline.PreFacts.none _) EP defs₀ 𝒱₀ m ρ main
    (hmain := fun _ => rfl)
    (hbody := fun c => (body_obligation m c).loose) (hne := fun w => by fin_cases w <;> exact Nat.succ_pos _) (harr := Gen.arr_whole0)
    (hstage := Gen.stage_whole0) (hshare := share_eq m)
    (hdistinct := Gen.winFacts0.arr_inj)
    (O₀ := fun c => Orem c 9) (howed₀ := fun _ => rfl) (howedN := fun _ => rfl)
    (L := L) (lv := lv) (hL := L_of_ne) (hwaits := waits m)
    (G := dealt (acts (ins m)) (parts (ins m))) (G' := ghost (acts (ins m)) (parts (ins m))) (u₀ := u₀)
    (hu₀ := by
      unfold u₀
      iintro Hu
      ihave H := (ownU_pair _ _) $$ Hu
      icases H with ⟨HP, HX⟩
      imod (made_all (acts (ins m)) (parts (ins m))) $$ HX with HG
      imodintro
      isplitl [HP] <;> iassumption)
    (hglob := deal (acts (ins m)) (parts (ins m)))
    (hA := fun _ _ => rfl) (hpf := fun _ k => k.elim0)
    (X := fun c => iprop(ghost (acts (ins m)) (parts (ins m)) c ∗ crs (F := F) c ∗ levAts L lv)) (Y := fun c => unscopedSems0 c) (Z := fun _ => iprop(emp))
    (hX := before_intro m ρ) (hin := phi_start m) (hout := phi_end m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem final_x (c : Dev nD) : finalA m c (0 : Fin 6) = m ((c : Thread nD τ).loc main_arg0) :=
  (dats (F := F) m 0 c).arrAt_in (0 : Fin 6) rfl _

theorem final_wq (c : Dev nD) : finalA m c (1 : Fin 6) = m ((c : Thread nD τ).loc main_arg1) :=
  (dats (F := F) m 0 c).arrAt_in (1 : Fin 6) rfl _

theorem final_wo (c : Dev nD) : finalA m c (2 : Fin 6) = m ((c : Thread nD τ).loc main_arg2) :=
  (dats (F := F) m 0 c).arrAt_in (2 : Fin 6) rfl _

theorem final_wk (c : Dev nD) : finalA m c (3 : Fin 6) = m ((c : Thread nD τ).loc main_arg3) :=
  (dats (F := F) m 0 c).arrAt_in (3 : Fin 6) rfl _

theorem final_wv (c : Dev nD) : finalA m c (4 : Fin 6) = m ((c : Thread nD τ).loc main_arg4) :=
  (dats (F := F) m 0 c).arrAt_in (4 : Fin 6) rfl _

/-- The result's array ends with the exchange's result. -/
theorem final_out (c : Dev nD) : (win0_5.blk (0 : Fin 1)).view.read (Elt F) (finalA m c (5 : Fin 6)) = outOf (ins m) c := by
  unfold finalA
  rw [show cfg0.N = ((0 : Fin 1) : Fin cfg0.N).val + 1 from rfl, (dats m 0 c).arrAt_succ (5 : Fin 6) (0 : Fin 1)]
  rw [show (cfg0.win (5 : Fin 6)).flush (0 : Fin 1) = true from Gen.flush0_5 Gen.t0_0, if_pos rfl]
  exact View.read_write_univ _ _

end Cert.Proof
-- ==== Proof.Softmax.lean ====
/-
  Attention on the extended reals, one batch element and one head at a time: the row of weights divided by its sum is
  the same whether or not each score has the row's maximum taken off it first, and whether the query's weight or the
  score is scaled.
-/
module

public import Idealize.ShloMosaic.PureOps.Ideal
public import Idealize.ShloMosaic.Lib.Pointwise

@[expose] public section

noncomputable section

namespace Cert.Proof

open Idealize.ShloMosaic
open scoped BigOperators

/-! ## Sums of extended reals -/

/-- The sum of real numbers, each read as an extended real, is the real sum. -/
theorem coe_sum {ι : Type} (s : Finset ι) (f : ι → ℝ) : ∑ i ∈ s, (f i : EReal) = ((∑ i ∈ s, f i : ℝ) : EReal) := by
  classical
  induction s using Finset.induction_on with
  | empty => simp
  | insert i s hi ih => rw [Finset.sum_insert hi, Finset.sum_insert hi, ih, EReal.coe_add]

/-- A nonnegative real factor goes into a sum of extended reals. -/
theorem sum_mul_coe {ι : Type} (s : Finset ι) (f : ι → EReal) (c : ℝ) (hc : 0 ≤ c) :
    ∑ i ∈ s, f i * (c : EReal) = (∑ i ∈ s, f i) * (c : EReal) := by
  classical
  induction s using Finset.induction_on with
  | empty => simp
  | insert i s hi ih =>
    rw [Finset.sum_insert hi, Finset.sum_insert hi, ih, mul_comm (f i), mul_comm (∑ j ∈ s, f j),
      mul_comm (f i + ∑ j ∈ s, f j)]
    exact (EReal.left_distrib_of_nonneg_of_ne_top (EReal.coe_nonneg.mpr hc) (EReal.coe_ne_top c) _ _).symm

/-! ## The attention of one head -/

/-- The number one eighth. -/
def eighth : EReal := ((1 / 8 : ℝ) : EReal)

/-- Rows of `x` times the columns of a head's weight. -/
def proj (x : Fin 128 → Fin 512 → EReal) (w : Fin 512 → Fin 64 → EReal) (a : Fin 128) (d : Fin 64) : EReal :=
  ∑ t, x a t * w t d

/-- Row `a`'s score against row `b`, the query's weight scaled. -/
def scoreIn (x : Fin 128 → Fin 512 → EReal) (wq wk : Fin 512 → Fin 64 → EReal) (a b : Fin 128) : EReal :=
  ∑ d, proj x (fun t d => wq t d * eighth) a d * proj x wk b d

/-- Row `a`'s score against row `b`, the score scaled. -/
def scoreOut (x : Fin 128 → Fin 512 → EReal) (wq wk : Fin 512 → Fin 64 → EReal) (a b : Fin 128) : EReal :=
  (∑ d, proj x wq a d * proj x wk b d) * eighth

/-- The attention with the reciprocal of the row's sum multiplied in at the end, no maximum taken off. -/
def attIn (x : Fin 128 → Fin 512 → EReal) (wq wk wv : Fin 512 → Fin 64 → EReal) (a : Fin 128) (d : Fin 64) : EReal :=
  (∑ b, Ideal.exp (scoreIn x wq wk a b) * proj x wv b d) * Ideal.div 1 (∑ b, Ideal.exp (scoreIn x wq wk a b))

/-- The attention as a softmax is written: the row's maximum taken off each score, the sum divided out. -/
def attOut (x : Fin 128 → Fin 512 → EReal) (wq wk wv : Fin 512 → Fin 64 → EReal) (a : Fin 128) (d : Fin 64) : EReal :=
  Ideal.div
    (∑ b, proj x wv b d * Ideal.exp (scoreOut x wq wk a b - Finset.univ.fold max ⊥ fun k => scoreOut x wq wk a k))
    (∑ b, Ideal.exp (scoreOut x wq wk a b - Finset.univ.fold max ⊥ fun k => scoreOut x wq wk a k))

/-- The greatest of finitely many real numbers, one or more, is a real number. -/
theorem max_real (s : Fin 128 → ℝ) : ∃ m : ℝ, (Finset.univ.fold max ⊥ fun k => (s k : EReal)) = (m : EReal) := by
  have hb : (Finset.univ.fold max ⊥ fun k => (s k : EReal)) ≠ ⊥ := by
    have h : (s 0 : EReal) ≤ Finset.univ.fold max ⊥ fun k => (s k : EReal) :=
      (Finset.le_fold_max _).mpr (.inr ⟨0, Finset.mem_univ _, le_refl _⟩)
    intro e
    rw [e] at h
    exact EReal.coe_ne_bot _ (le_bot_iff.mp h)
  have ht : (Finset.univ.fold max ⊥ fun k => (s k : EReal)) ≠ ⊤ := by
    have h : (Finset.univ.fold max ⊥ fun k => (s k : EReal)) < ⊤ :=
      (Finset.fold_max_lt _).mpr ⟨bot_lt_top, fun k _ => EReal.coe_lt_top _⟩
    exact h.ne
  exact ⟨_, (EReal.coe_toReal ht hb).symm⟩

/-- Weights `exp s` divided by their sum are the weights `exp (s - m)` divided by theirs, whatever they weigh. -/
theorem softmax_shift (s : Fin 128 → ℝ) (m : ℝ) (v : Fin 128 → EReal) :
    (∑ b, Ideal.exp (s b : EReal) * v b) * Ideal.div 1 (∑ b, Ideal.exp (s b : EReal))
      = Ideal.div (∑ b, v b * Ideal.exp ((s b : EReal) - (m : EReal))) (∑ b, Ideal.exp ((s b : EReal) - (m : EReal))) := by
  have e1 : ∀ b, Ideal.exp (s b : EReal) = (Real.exp (s b) : EReal) := fun b => rfl
  have e2 : ∀ b, Ideal.exp ((s b : EReal) - (m : EReal)) = ((Real.exp (s b) * Real.exp (-m) : ℝ) : EReal) := by
    intro b
    rw [← EReal.coe_sub, ← Real.exp_add]
    rfl
  have hL : 0 < ∑ b, Real.exp (s b) := Finset.sum_pos (fun b _ => Real.exp_pos _) ⟨0, Finset.mem_univ _⟩
  have hc : 0 < Real.exp (-m) := Real.exp_pos _
  have hLc : 0 < (∑ b, Real.exp (s b)) * Real.exp (-m) := mul_pos hL hc
  simp only [e1, e2]
  rw [coe_sum, coe_sum, ← Finset.sum_mul]
  have hn : ∑ b, v b * ((Real.exp (s b) * Real.exp (-m) : ℝ) : EReal)
      = (∑ b, (Real.exp (s b) : EReal) * v b) * (Real.exp (-m) : EReal) := by
    rw [← sum_mul_coe _ _ _ hc.le]
    refine Finset.sum_congr rfl fun b _ => ?_
    rw [EReal.coe_mul, ← mul_assoc, mul_comm (v b)]
  rw [hn]
  unfold Ideal.div
  rw [if_neg (by exact_mod_cast hL.ne'), if_neg (by exact_mod_cast hLc.ne'), one_mul, mul_assoc, ← EReal.coe_inv,
    ← EReal.coe_inv, ← EReal.coe_mul]
  congr 2
  field_simp

/-- With real inputs the two attentions are equal, whatever the values' weight holds. -/
theorem attIn_eq (x : Fin 128 → Fin 512 → EReal) (wq wk wv : Fin 512 → Fin 64 → EReal) (xr : Fin 128 → Fin 512 → ℝ)
    (qr kr : Fin 512 → Fin 64 → ℝ) (hx : ∀ a t, x a t = xr a t) (hq : ∀ t d, wq t d = qr t d)
    (hk : ∀ t d, wk t d = kr t d) (a : Fin 128) (d : Fin 64) :
    attIn x wq wk wv a d = attOut x wq wk wv a d := by
  have hO : ∀ b, scoreOut x wq wk a b = (((∑ e, (∑ t, xr a t * qr t e) * (∑ t, xr b t * kr t e)) * (1 / 8) : ℝ) : EReal) := by
    intro b
    unfold scoreOut proj eighth
    simp only [hx, hq, hk, ← EReal.coe_mul, coe_sum]
  have hI : ∀ b, scoreIn x wq wk a b = (((∑ e, (∑ t, xr a t * qr t e) * (∑ t, xr b t * kr t e)) * (1 / 8) : ℝ) : EReal) := by
    intro b
    unfold scoreIn proj eighth
    simp only [hx, hq, hk, ← EReal.coe_mul, coe_sum]
    congr 1
    rw [Finset.sum_mul]
    refine Finset.sum_congr rfl fun e _ => ?_
    simp only [← mul_assoc, ← Finset.sum_mul]
    ring
  unfold attIn attOut
  simp only [hO, hI]
  obtain ⟨m, hm⟩ := max_real fun b => (∑ e, (∑ t, xr a t * qr t e) * (∑ t, xr b t * kr t e)) * (1 / 8)
  rw [hm]
  exact softmax_shift _ m _

end Cert.Proof
-- ==== Proof.BlockValue.lean ====
/-
  What one block's work computes on the extended reals: entry `(j, a, n)` of the partial result is the sum, over the
  512 columns of the eight heads of the device, of the attention times the device's row of the output weight.
-/
module

public import proofs.«01_k».proof.Proof.Exchange
public import proofs.«01_k».proof.Proof.Softmax

@[expose] public section

set_option maxRecDepth 16384

noncomputable section

namespace Cert.Proof

open Cert.KernelIdeal
open Cert.KernelIdeal.Facts₀ Cert.KernelIdeal.Facts
open Idealize.ShloMosaic
open scoped BigOperators

/-- The 64 columns of head `h` of a weight of `n` columns. -/
def headCols {n : ℕ} (w : (⟨2, ![512, n]⟩ : Shape).Idx → EReal) (h : ℕ) (hh : 64 * h + 64 ≤ n) (t : Fin 512) (d : Fin 64) :
    EReal := w (ix2 t ⟨64 * h + d.val, by omega⟩)

/-- The rows of batch element `j` of an array of `n` batch elements. -/
def batchRows {n : ℕ} (X : (⟨3, ![n, 128, 512]⟩ : Shape).Idx → EReal) (j : Fin n) (a : Fin 128) (t : Fin 512) : EReal :=
  X (ix3 j a t)

/-- The constant the query's weight is multiplied by is one eighth. -/
theorem ofBits_eighth_bf16 : Ideal.ofBits .bf16 0x3E00#16 = eighth := by
  unfold Ideal.ofBits Ideal.ieee eighth
  simp
  rw [← EReal.coe_mul]
  norm_num

/-- The constant the reference multiplies the scores by is one eighth. -/
theorem ofBits_eighth_f32 : Ideal.ofBits .f32 0x3E000000#32 = eighth := by
  unfold Ideal.ofBits Ideal.ieee eighth
  simp
  rw [← EReal.coe_mul]
  norm_num

/-- The softmax of one head at an entry. -/
theorem pay58_apply (Q K V : Vec Ideal S16x128x64 .bf16) (i : Fin 16) (a : Fin 128) (d : Fin 64) :
    Gen.k0_pay58 Q K V (ix3 i a d)
      = (∑ b, Ideal.exp (∑ e, Q (ix3 i a e) * K (ix3 i b e)) * V (ix3 i b d))
        * Ideal.div 1 (∑ b, Ideal.exp (∑ e, Q (ix3 i a e) * K (ix3 i b e))) := by
  pointwise [Gen.k0_pay58]

/-- The product with the output weight at an entry. -/
theorem pay77_apply (wo : FVec Ideal S512x512 .bf16) (A : FVec Ideal S256x512 .bf16) (r : Fin 256) (n : Fin 512) :
    Gen.k0_pay77 wo A (ix2 r n) = ∑ k, A (ix2 r k) * wo (ix2 k n) := by
  pointwise [Gen.k0_pay77]

/-- The projections at an entry. -/
theorem qkvOf_apply (X : FVec Ideal S2x128x512 .bf16) (w : FVec Ideal S512x1536 .bf16) (r : Fin 256) (n : Fin 1536) :
    qkvOf X w (ix2 r n) = ∑ t, X (ix3 ⟨r.val / 128, by omega⟩ ⟨r.val % 128, by omega⟩ t) * w (ix2 t n) := by
  unfold qkvOf
  pointwise

/-- The scaled query weight at an entry. -/
theorem pay2_apply (w : FVec Ideal S512x512 .bf16) (t n : Fin 512) :
    Gen.k0_pay2 (F := Ideal) w (ix2 t n) = w (ix2 t n) * eighth := by
  rw [← ofBits_eighth_bf16]
  pointwise [Gen.k0_pay2]

/-- The key's weight is stored as it is. -/
theorem pay3_apply (w : FVec Ideal S512x512 .bf16) (t n : Fin 512) : Gen.k0_pay3 (F := Ideal) w (ix2 t n) = w (ix2 t n) := by
  pointwise [Gen.k0_pay3]
/-- So is the values' weight. -/
theorem pay4_apply (w : FVec Ideal S512x512 .bf16) (t n : Fin 512) : Gen.k0_pay4 (F := Ideal) w (ix2 t n) = w (ix2 t n) := by
  pointwise [Gen.k0_pay4]
/-- So is the output weight. -/
theorem pay5_apply (w : FVec Ideal S512x512 .bf16) (t n : Fin 512) : Gen.k0_pay5 (F := Ideal) w (ix2 t n) = w (ix2 t n) := by
  pointwise [Gen.k0_pay5]

/-- The three weights side by side, at a column of the query's. -/
theorem wqkvOf_q (wq wk wv : FVec Ideal S512x512 .bf16) (t n : Fin 512) (m : Fin 1536) (h : m.val = n.val) :
    wqkvOf (F := Ideal) wq wk wv (ix2 t m) = wq (ix2 t n) * eighth := by
  unfold wqkvOf
  refine (if_pos (show m.val < 512 by omega)).trans ((congrArg (Gen.k0_pay2 (F := Ideal) wq) ?_).trans (pay2_apply wq t n))
  idx_ext
  all_goals first | rfl | (show m.val % 512 = n.val; omega)
/-- The three weights side by side, at a column of the key's. -/
theorem wqkvOf_k (wq wk wv : FVec Ideal S512x512 .bf16) (t n : Fin 512) (m : Fin 1536) (h : m.val = 512 + n.val) :
    wqkvOf (F := Ideal) wq wk wv (ix2 t m) = wk (ix2 t n) := by
  unfold wqkvOf
  refine (if_neg (show ¬ m.val < 512 by omega)).trans ((if_pos (show m.val < 1024 by omega)).trans
    ((congrArg (Gen.k0_pay3 (F := Ideal) wk) ?_).trans (pay3_apply wk t n)))
  idx_ext
  all_goals first | rfl | (show m.val % 512 = n.val; omega)
/-- The three weights side by side, at a column of the values'. -/
theorem wqkvOf_v (wq wk wv : FVec Ideal S512x512 .bf16) (t n : Fin 512) (m : Fin 1536) (h : m.val = 1024 + n.val) :
    wqkvOf (F := Ideal) wq wk wv (ix2 t m) = wv (ix2 t n) := by
  unfold wqkvOf
  refine (if_neg (show ¬ m.val < 512 by omega)).trans ((if_neg (show ¬ m.val < 1024 by omega)).trans
    ((congrArg (Gen.k0_pay4 (F := Ideal) wv) ?_).trans (pay4_apply wv t n)))
  idx_ext
  all_goals first | rfl | (show m.val % 512 = n.val; omega)

/-- The projections of batch element `j` at head `h`: its rows times the head's columns of whatever weight stands at the
    columns read. -/
theorem headBuf_apply (X : FVec Ideal S2x128x512 .bf16) (w : FVec Ideal S512x1536 .bf16) (p : Fin 3)
    (W : Fin 512 → Fin 64 → EReal) (j : Fin 2) (h : Fin 8)
    (hw : ∀ t d, w (ix2 t ⟨512 * p.val + (64 * h.val + d.val), by omega⟩) = W t d) (a : Fin 128) (d : Fin 64) :
    headBuf p (qkvOf X w) (ix3 ⟨8 * j.val + h.val, by omega⟩ a d) = proj (batchRows X j) W a d := by
  unfold headBuf proj batchRows
  rw [qkvOf_apply]
  refine Finset.sum_congr rfl fun t _ => ?_
  rw [← hw]
  congr 2 <;> idx_ext <;> simp <;> omega

/-- The attention of batch element `j`, row `a`, at column `k`: that of head `k / 64` at its column `k % 64`. -/
theorem attnOf_apply (X : FVec Ideal S2x128x512 .bf16) (wq wk wv : FVec Ideal S512x512 .bf16) (j : Fin 2) (a : Fin 128)
    (k : Fin 512) (r : Fin 256) (hr : r.val = 128 * j.val + a.val) :
    attnOf (qkvOf X (wqkvOf wq wk wv)) (ix2 r k)
      = attIn (batchRows X j) (headCols wq (k.val / 64) (by omega)) (headCols wk (k.val / 64) (by omega))
          (headCols wv (k.val / 64) (by omega)) a ⟨k.val % 64, by omega⟩ := by
  have e : ∀ o : FVec Ideal S16x128x64 .bf16, attnBuf o (ix2 r k)
      = o (ix3 ⟨8 * j.val + (⟨k.val / 64, by omega⟩ : Fin 8).val, by simp; omega⟩ a ⟨k.val % 64, by omega⟩) := by
    intro o
    unfold attnBuf
    congr 1
    idx_ext <;> simp <;> omega
  unfold attnOf
  rw [e, pay58_apply]
  unfold attIn scoreIn
  have hq := headBuf_apply X (wqkvOf wq wk wv) 0 (fun t d => headCols wq (k.val / 64) (by omega) t d * eighth) j
    ⟨k.val / 64, by omega⟩ (fun t d => wqkvOf_q wq wk wv t _ _ (by simp))
  have hk := headBuf_apply X (wqkvOf wq wk wv) 1 (headCols wk (k.val / 64) (by omega)) j
    ⟨k.val / 64, by omega⟩ (fun t d => wqkvOf_k wq wk wv t _ _ (by simp))
  have hv := headBuf_apply X (wqkvOf wq wk wv) 2 (headCols wv (k.val / 64) (by omega)) j
    ⟨k.val / 64, by omega⟩ (fun t d => wqkvOf_v wq wk wv t _ _ (by simp))
  simp only [hq, hk, hv]

/-- A block's partial result at an entry. -/
theorem partOf_apply (wo wq wk wv : FVec Ideal S512x512 .bf16) (X : FVec Ideal S2x128x512 .bf16) (j : Fin 2) (a : Fin 128)
    (n : Fin 512) :
    partOf (Gen.k0_pay5 wo) (wqkvOf wq wk wv) X (ix3 j a n)
      = ∑ k : Fin 512, attIn (batchRows X j) (headCols wq (k.val / 64) (by omega)) (headCols wk (k.val / 64) (by omega))
          (headCols wv (k.val / 64) (by omega)) a ⟨k.val % 64, by omega⟩ * wo (ix2 k n) := by
  unfold partOf rowsBuf
  rw [show (ix3 j a n : S2x128x512.Idx) 2 = n from rfl, pay77_apply]
  refine Finset.sum_congr rfl fun k _ => ?_
  rw [attnOf_apply X wq wk wv j a k _ rfl, pay5_apply]

/-- The four partial results added. -/
theorem sumOf_apply (p a b e : FVec Ideal S2x128x512 .bf16) (j : Fin 2) (r : Fin 128) (n : Fin 512) :
    sumOf p a b e (ix3 j r n) = p (ix3 j r n) + a (ix3 j r n) + b (ix3 j r n) + e (ix3 j r n) := by
  unfold sumOf
  pointwise [Gen.k0_pay305, Gen.k0_pay304]

end Cert.Proof
-- ==== Proof.RefValue.lean ====
/-
  What the reference computes on the extended reals: entry `(b, a, n)` of its result is the sum, over the 2048 columns of
  the 32 heads, of the softmax attention times the output weight.
-/
module

public import proofs.«01_k».proof.Proof.Gen.ReferenceIdeal.Run
public import proofs.«01_k».proof.Proof.BlockValue

@[expose] public section

set_option maxRecDepth 16384

noncomputable section

namespace Cert.Proof

open Cert.ReferenceIdeal
open Cert.ReferenceIdeal.Gen
open Idealize.ShloMosaic Idealize.ShloMosaic.TcCoe
open scoped BigOperators

/-- The constant the maximum starts from is minus infinity. -/
theorem ofBits_bot_f32 : Ideal.ofBits .f32 0xFF800000#32 = ⊥ := by
  unfold Ideal.ofBits Ideal.ieee
  simp

/-- A projection, its columns split into heads. -/
def projT (x : FVec Ideal S8x128x512 .bf16) (w : FVec Ideal S512x2048 .bf16) : FVec Ideal S8x128x32x64 .f32 :=
  shapeCast S8x128x32x64 (Host.dotGeneral (F := Ideal) dot_S8x128x512_S512x2048_S8x128x2048_2_0_01_1_n_n none
    (extf .f32 x bitsLt_bf16_f32) (extf .f32 w bitsLt_bf16_f32)) shapeCasts_S8x128x2048_S8x128x32x64

/-- The scaled scores. -/
def scoreT (q k : FVec Ideal S8x128x32x64 .f32) : FVec Ideal S8x32x128x128 .f32 :=
  mulf (Host.dotGeneral (F := Ideal) dot_S8x128x32x64_S8x128x32x64_S8x32x128x128_3_3_1_1_02_02 none q k)
    (broadcastInDim S8x32x128x128 ![] bcast_S_S8x32x128x128 (constant S_ .f32 0x3E000000#32))

/-- The weights: the exponential of each score less its row's maximum. -/
def weightT (s : FVec Ideal S8x32x128x128 .f32) : FVec Ideal S8x32x128x128 .f32 :=
  Host.exp (subf s (broadcastInDim S8x32x128x128 ![0, 1, 2, 3] bcast_S8x32x128x1_S8x32x128x128_0_1_2_3
    (broadcastInDim S8x32x128x1 ![0, 1, 2] bcast_S8x32x128_S8x32x128x1_0_1_2
      (Host.reduce FloatOps.maximumf s (constant S_ .f32 0xFF800000#32) reducesTo_S8x32x128x128_S8x32x128_d3 h_S_))))

/-- The values weighed, and divided by the weights' sum. -/
def meanT (v : FVec Ideal S8x128x32x64 .f32) (p : FVec Ideal S8x32x128x128 .f32) : FVec Ideal S8x128x32x64 .f32 :=
  Host.divf (transpose S8x128x32x64 [0, 3, 1, 2]
      (Host.dotGeneral (F := Ideal) dot_S8x128x32x64_S8x32x128x128_S8x32x64x128_1_3_3_2_02_01 none v p)
      transposes_S8x32x64x128_S8x128x32x64_0_3_1_2)
    (broadcastInDim S8x128x32x64 ![0, 1, 2, 3] bcast_S8x128x32x1_S8x128x32x64_0_1_2_3
      (transpose S8x128x32x1 [0, 2, 1, 3] (broadcastInDim S8x32x128x1 ![0, 1, 2] bcast_S8x32x128_S8x32x128x1_0_1_2
        (Host.reduceAdd p (constant S_ .f32 0x00000000#32) reducesTo_S8x32x128x128_S8x32x128_d3 h_S_))
        transposes_S8x32x128x1_S8x128x32x1_0_2_1_3))

/-- The reference, from its five arguments. -/
def refT (x : FVec Ideal S8x128x512 .bf16) (wq : FVec Ideal S512x2048 .bf16) (wo : FVec Ideal S2048x512 .bf16)
    (wk wv : FVec Ideal S512x2048 .bf16) : FVec Ideal S8x128x512 .f32 :=
  Host.dotGeneral (F := Ideal) dot_S8x128x2048_S2048x512_S8x128x512_2_0_01_1_n_n none
    (shapeCast S8x128x2048 (meanT (projT x wv) (weightT (scoreT (projT x wq) (projT x wk)))) shapeCasts_S8x128x32x64_S8x128x2048)
    (extf .f32 wo bitsLt_bf16_f32)

/-- The result of the reference program's run is this function of its arguments. -/
theorem res_eq (m : (ℓ : Loc nD τ sig) → Buf (Elt Ideal) ℓ) (c : Dev nD) :
    Cert.ReferenceIdeal.Value.res_main_v27 (F := Ideal) m c
      = refT (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) := rfl

/-- A projection at an entry. -/
theorem projT_apply (x : FVec Ideal S8x128x512 .bf16) (w : FVec Ideal S512x2048 .bf16) (b : Fin 8) (a : Fin 128)
    (h : Fin 32) (d : Fin 64) :
    projT x w (ix4 b a h d) = proj (batchRows x b) (headCols w h.val (by omega)) a d := by
  unfold projT proj batchRows headCols
  pointwise
  refine Finset.sum_congr rfl fun t _ => ?_
  congr 3
  exact Fin.ext (by show h.val * 64 + d.val = 64 * h.val + d.val; omega)

/-- A score at an entry. -/
theorem scoreT_apply (q k : FVec Ideal S8x128x32x64 .f32) (b : Fin 8) (h : Fin 32) (i j : Fin 128) :
    scoreT q k (ix4 b h i j) = (∑ d, q (ix4 b i h d) * k (ix4 b j h d)) * eighth := by
  rw [← ofBits_eighth_f32]
  unfold scoreT
  pointwise

/-- A weight at an entry. -/
theorem weightT_apply (s : FVec Ideal S8x32x128x128 .f32) (b : Fin 8) (h : Fin 32) (i j : Fin 128) :
    weightT s (ix4 b h i j)
      = Ideal.exp (s (ix4 b h i j) - Finset.univ.fold max ⊥ fun k => s (ix4 b h i k)) := by
  rw [← ofBits_bot_f32]
  unfold weightT
  pointwise

/-- The weighed mean at an entry. -/
theorem meanT_apply (v : FVec Ideal S8x128x32x64 .f32) (p : FVec Ideal S8x32x128x128 .f32) (b : Fin 8) (a : Fin 128)
    (h : Fin 32) (d : Fin 64) :
    meanT v p (ix4 b a h d) = Ideal.div (∑ j, v (ix4 b j h d) * p (ix4 b h a j)) (∑ j, p (ix4 b h a j)) := by
  unfold meanT
  pointwise

/-- The reference's result at an entry. -/
theorem refT_apply (x : FVec Ideal S8x128x512 .bf16) (wq : FVec Ideal S512x2048 .bf16) (wo : FVec Ideal S2048x512 .bf16)
    (wk wv : FVec Ideal S512x2048 .bf16) (b : Fin 8) (a : Fin 128) (n : Fin 512) :
    refT x wq wo wk wv (ix3 b a n)
      = ∑ k : Fin 2048, attOut (batchRows x b) (headCols wq (k.val / 64) (by omega)) (headCols wk (k.val / 64) (by omega))
          (headCols wv (k.val / 64) (by omega)) a ⟨k.val % 64, by omega⟩ * wo (ix2 k n) := by
  unfold refT
  pointwise
  refine Finset.sum_congr rfl fun k _ => ?_
  congr 1
  rw [meanT_apply]
  unfold attOut scoreOut
  simp only [weightT_apply, scoreT_apply, projT_apply]

end Cert.Proof
-- ==== Proof.Equation.lean ====
/-
  The equation between the two programs on the extended reals: where the activations and the weights of the scores are
  finite, what device `c` is left with is its two batch elements of the reference's result.
-/
module

public import proofs.«01_k».proof.Proof.RefValue

@[expose] public section

set_option maxRecDepth 16384

noncomputable section

namespace Cert.Proof

open Cert.KernelIdeal
open Idealize.ShloMosaic
open scoped BigOperators

/-- An extended real that leaves nothing when taken from itself is a real number. -/
theorem real_of_sub_self (y : EReal) (h : y - y = 0) : ∃ r : ℝ, y = r := by
  induction y with
  | bot => simp at h
  | top => simp at h
  | coe r => exact ⟨r, rfl⟩

/-- A sum over 2048 columns, device by device. -/
theorem sum_devices (G : Fin 2048 → EReal) :
    ∑ e : Fin 4, ∑ k : Fin 512, G ⟨512 * e.val + k.val, by omega⟩ = ∑ K, G K := by
  rw [← Fintype.sum_prod_type', ← Equiv.sum_comp (finProdFinEquiv (m := 4) (n := 512)) G]
  refine Finset.sum_congr rfl fun p _ => congrArg G (Fin.ext ?_)
  show 512 * p.1.val + p.2.val = p.2.val + 512 * p.1.val
  omega

/-- The four devices' terms in the order device `c` adds them. -/
theorem sum_around (T : Dev nD → EReal) (c : Dev nD) :
    T c + T (peer 1 c) + T (peer 3 c) + T (peer 2 c) = ∑ e : Fin 4, T e := by
  rw [Fin.sum_univ_four]
  have h : ∀ c : Dev nD,
      (c, peer 1 c, peer 2 c, peer 3 c) = (0, 1, 2, 3) ∨ (c, peer 1 c, peer 2 c, peer 3 c) = (1, 2, 3, 0)
      ∨ (c, peer 1 c, peer 2 c, peer 3 c) = (2, 3, 0, 1) ∨ (c, peer 1 c, peer 2 c, peer 3 c) = (3, 0, 1, 2) := by decide
  rcases h c with h | h | h | h <;> simp only [Prod.mk.injEq] at h <;> obtain ⟨h0, h1, h2, h3⟩ := h <;>
    rw [h1, h2, h3, h0] <;> ac_rfl

section
variable (I : Dev nD → Ins Ideal) (x : FVec Ideal Cert.ReferenceIdeal.S8x128x512 .bf16)
  (wq : FVec Ideal Cert.ReferenceIdeal.S512x2048 .bf16) (wo : FVec Ideal Cert.ReferenceIdeal.S2048x512 .bf16)
  (wk wv : FVec Ideal Cert.ReferenceIdeal.S512x2048 .bf16)

/-- The devices' inputs are their blocks of the whole arrays: two batch elements, 512 columns of the projections'
    weights, 512 rows of the output weight. -/
structure Blocks : Prop where
  x : ∀ (c : Dev nD) (j : Fin 2) (a : Fin 128) (t : Fin 512) (h : 2 * c.val + j.val < 8),
    (I c).x (ix3 j a t) = x (ix3 ⟨2 * c.val + j.val, h⟩ a t)
  wq : ∀ (c : Dev nD) (t n : Fin 512) (h : 512 * c.val + n.val < 2048),
    (I c).wq (ix2 t n) = wq (ix2 t ⟨512 * c.val + n.val, h⟩)
  wo : ∀ (c : Dev nD) (k n : Fin 512) (h : 512 * c.val + k.val < 2048),
    (I c).wo (ix2 k n) = wo (ix2 ⟨512 * c.val + k.val, h⟩ n)
  wk : ∀ (c : Dev nD) (t n : Fin 512) (h : 512 * c.val + n.val < 2048),
    (I c).wk (ix2 t n) = wk (ix2 t ⟨512 * c.val + n.val, h⟩)
  wv : ∀ (c : Dev nD) (t n : Fin 512) (h : 512 * c.val + n.val < 2048),
    (I c).wv (ix2 t n) = wv (ix2 t ⟨512 * c.val + n.val, h⟩)

/-- A device's activations and the weights of its scores are real numbers. -/
structure FiniteIns : Prop where
  x : ∀ (c : Dev nD) (j : Fin 2) (a : Fin 128) (t : Fin 512), ∃ r : ℝ, (I c).x (ix3 j a t) = r
  wq : ∀ (c : Dev nD) (t n : Fin 512), ∃ r : ℝ, (I c).wq (ix2 t n) = r
  wk : ∀ (c : Dev nD) (t n : Fin 512), ∃ r : ℝ, (I c).wk (ix2 t n) = r

/-- A head of a device's columns of a weight is that head of the whole weight. -/
theorem headCols_block (u : FVec Ideal S512x512 .bf16) (w : FVec Ideal Cert.ReferenceIdeal.S512x2048 .bf16) (e : Dev nD)
    (k : Fin 512) (K : Fin 2048) (hK : K.val = 512 * e.val + k.val)
    (hw : ∀ (t n : Fin 512) (h : 512 * e.val + n.val < 2048), u (ix2 t n) = w (ix2 t ⟨512 * e.val + n.val, h⟩)) :
    headCols u (k.val / 64) (by omega) = headCols w (K.val / 64) (by omega) := by
  have he : e.val < 4 := e.isLt
  funext t d
  unfold headCols
  rw [hw t _ (by simp; omega)]
  congr 2
  exact Fin.ext (by simp; omega)

/-- Device `e`'s work on device `c`'s activations is its 512 columns' share of the reference's sum. -/
theorem parts_eq (hB : Blocks I x wq wo wk wv) (hF : FiniteIns I) (c e : Dev nD) (r : Fin 4) (hr : peer r e = c) (j : Fin 2)
    (a : Fin 128) (n : Fin 512) (hb : 2 * c.val + j.val < 8) (hk : ∀ k : Fin 512, 512 * e.val + k.val < 2048) :
    parts I e r (ix3 j a n) = ∑ k : Fin 512,
      attOut (batchRows x ⟨2 * c.val + j.val, hb⟩) (headCols wq ((512 * e.val + k.val) / 64) (by have := hk k; omega))
          (headCols wk ((512 * e.val + k.val) / 64) (by have := hk k; omega))
          (headCols wv ((512 * e.val + k.val) / 64) (by have := hk k; omega)) a ⟨(512 * e.val + k.val) % 64, by omega⟩
        * wo (ix2 ⟨512 * e.val + k.val, hk k⟩ n) := by
  unfold parts
  rw [hr, partOf_apply]
  refine Finset.sum_congr rfl fun k _ => ?_
  have hX : batchRows (acts I c) j = batchRows x ⟨2 * c.val + j.val, hb⟩ := by
    funext a t
    exact hB.x c j a t hb
  choose xr hxr using hF.x c j
  choose qr hqr using hF.wq e
  choose kr hkr using hF.wk e
  rw [attIn_eq (batchRows (acts I c) j) (headCols (I e).wq (k.val / 64) (by omega)) (headCols (I e).wk (k.val / 64) (by omega)) _ xr (fun t d => qr t ⟨64 * (k.val / 64) + d.val, by omega⟩)
    (fun t d => kr t ⟨64 * (k.val / 64) + d.val, by omega⟩) hxr (fun t d => hqr t _) (fun t d => hkr t _),
    hX, headCols_block (I e).wq wq e k ⟨_, hk k⟩ rfl (hB.wq e), headCols_block (I e).wk wk e k ⟨_, hk k⟩ rfl (hB.wk e),
    headCols_block (I e).wv wv e k ⟨_, hk k⟩ rfl (hB.wv e), hB.wo e k n (hk k)]
  congr 2
  exact Fin.ext (by simp; omega)

/-- What device `c` is left with is its two batch elements of the reference's result. -/
theorem outOf_eq (hB : Blocks I x wq wo wk wv) (hF : FiniteIns I) (c : Dev nD) (j : Fin 2) (a : Fin 128) (n : Fin 512)
    (hb : 2 * c.val + j.val < 8) :
    outOf I c (ix3 j a n) = refT x wq wo wk wv (ix3 ⟨2 * c.val + j.val, hb⟩ a n) := by
  have hk : ∀ (e : Dev nD) (k : Fin 512), 512 * e.val + k.val < 2048 := fun e k => by
    have : e.val < 4 := e.isLt
    omega
  have h1 : ∀ c : Dev nD, peer 3 (peer 1 c) = c := by decide
  have h2 : ∀ c : Dev nD, peer 1 (peer 3 c) = c := by decide
  have h3 : ∀ c : Dev nD, peer 2 (peer 2 c) = c := by decide
  unfold outOf
  rw [sumOf_apply, parts_eq I x wq wo wk wv hB hF c c 0 (peer_zero c) j a n hb (hk _),
    parts_eq I x wq wo wk wv hB hF c (peer 1 c) 3 (h1 c) j a n hb (hk _),
    parts_eq I x wq wo wk wv hB hF c (peer 3 c) 1 (h2 c) j a n hb (hk _),
    parts_eq I x wq wo wk wv hB hF c (peer 2 c) 2 (h3 c) j a n hb (hk _), refT_apply, ← sum_devices]
  exact sum_around (fun e => ∑ k : Fin 512,
      attOut (batchRows x ⟨2 * c.val + j.val, hb⟩)
          (headCols wq ((512 * e.val + k.val) / 64) (by have := hk e k; omega))
          (headCols wk ((512 * e.val + k.val) / 64) (by have := hk e k; omega))
          (headCols wv ((512 * e.val + k.val) / 64) (by have := hk e k; omega)) a ⟨(512 * e.val + k.val) % 64, by omega⟩
        * wo (ix2 ⟨512 * e.val + k.val, hk e k⟩ n)) c

end

end Cert.Proof
-- ==== Proof.Value.lean ====
/-
  The kernel's result array on a device, as a block of the reference's result: the operands a device works on are its
  argument arrays whole, and the block it stores is the result array whole.
-/
module

public import proofs.«01_k».proof.Proof.Launch
public import proofs.«01_k».proof.Proof.Equation
public import Idealize.ShloMosaic.Lib.Layout

@[expose] public section

set_option maxRecDepth 16384

noncomputable section

namespace Cert.Proof

open Cert.KernelIdeal
open Idealize.ShloMosaic Idealize.ShloMosaic.TcCoe

variable (m : (ℓ : Loc nD τ sig) → Buf (Elt Ideal) ℓ) (c : Dev nD)

/-! ## Whole arrays -/

/-- The activations a device works on are its argument array. -/
theorem ins_x : (ins m c).x = m ((c.tc : Thread nD τ).loc main_arg0) := by
  have hz : (fun a => (win0_0.index (0 : Fin 1)) a * main_arg0.ty.shape.size a) = fun _ => 0 :=
    funext fun a => by fin_cases a <;> decide
  exact Memref.read_access_unit_zero (Elt Ideal) main_arg0 hz (fun a => by fin_cases a <;> decide)
    (m ((c.tc : Thread nD τ).loc main_arg0))
/-- The query weight it works on is its argument array. -/
theorem ins_wq : (ins m c).wq = m ((c.tc : Thread nD τ).loc main_arg1) := by
  have hz : (fun a => (win0_1.index (0 : Fin 1)) a * main_arg1.ty.shape.size a) = fun _ => 0 :=
    funext fun a => by fin_cases a <;> decide
  exact Memref.read_access_unit_zero (Elt Ideal) main_arg1 hz (fun a => by fin_cases a <;> decide)
    (m ((c.tc : Thread nD τ).loc main_arg1))
/-- The output weight it works on is its argument array. -/
theorem ins_wo : (ins m c).wo = m ((c.tc : Thread nD τ).loc main_arg2) := by
  have hz : (fun a => (win0_2.index (0 : Fin 1)) a * main_arg2.ty.shape.size a) = fun _ => 0 :=
    funext fun a => by fin_cases a <;> decide
  exact Memref.read_access_unit_zero (Elt Ideal) main_arg2 hz (fun a => by fin_cases a <;> decide)
    (m ((c.tc : Thread nD τ).loc main_arg2))
/-- The key weight it works on is its argument array. -/
theorem ins_wk : (ins m c).wk = m ((c.tc : Thread nD τ).loc main_arg3) := by
  have hz : (fun a => (win0_3.index (0 : Fin 1)) a * main_arg3.ty.shape.size a) = fun _ => 0 :=
    funext fun a => by fin_cases a <;> decide
  exact Memref.read_access_unit_zero (Elt Ideal) main_arg3 hz (fun a => by fin_cases a <;> decide)
    (m ((c.tc : Thread nD τ).loc main_arg3))
/-- The value weight it works on is its argument array. -/
theorem ins_wv : (ins m c).wv = m ((c.tc : Thread nD τ).loc main_arg4) := by
  have hz : (fun a => (win0_4.index (0 : Fin 1)) a * main_arg4.ty.shape.size a) = fun _ => 0 :=
    funext fun a => by fin_cases a <;> decide
  exact Memref.read_access_unit_zero (Elt Ideal) main_arg4 hz (fun a => by fin_cases a <;> decide)
    (m ((c.tc : Thread nD τ).loc main_arg4))

/-- The result array after the run is what the device computed. -/
theorem final_whole : finalA m c (5 : Fin 6) = outOf (ins m) c := by
  have hz : (fun a => (win0_5.index (0 : Fin 1)) a * main_v1.ty.shape.size a) = fun _ => 0 :=
    funext fun a => by fin_cases a <;> decide
  exact (Memref.read_access_unit_zero (Elt Ideal) main_v1 hz (fun a => by fin_cases a <;> decide)
    (finalA m c (5 : Fin 6))).symm.trans (final_out m c)

/-! ## Blocks -/

/-- A device's two batch elements of an array of eight. -/
theorem block_batch {α : Type} (v : (⟨3, ![8, 128, 512]⟩ : Shape).Idx → α) (j : Fin 2) (a : Fin 128) (t : Fin 512)
    (h : 2 * c.val + j.val < 8) :
    (Layout.block ⟨3, ![2, 128, 512]⟩ ⟨3, ![8, 128, 512]⟩ 0 4 c v) (ix3 j a t) = v (ix3 ⟨2 * c.val + j.val, h⟩ a t) := by
  refine congrArg v (funext fun b => Fin.ext ?_)
  fin_cases b
  · show c.val * 2 + j.val = 2 * c.val + j.val
    omega
  · rfl
  · rfl

/-- A device's 512 columns of a weight of 2048. -/
theorem block_cols {α : Type} (v : (⟨2, ![512, 2048]⟩ : Shape).Idx → α) (t n : Fin 512) (h : 512 * c.val + n.val < 2048) :
    (Layout.block ⟨2, ![512, 512]⟩ ⟨2, ![512, 2048]⟩ 1 4 c v) (ix2 t n) = v (ix2 t ⟨512 * c.val + n.val, h⟩) := by
  refine congrArg v (funext fun b => Fin.ext ?_)
  fin_cases b
  · rfl
  · show c.val * 512 + n.val = 512 * c.val + n.val
    omega

/-- A device's 512 rows of a weight of 2048. -/
theorem block_rows {α : Type} (v : (⟨2, ![2048, 512]⟩ : Shape).Idx → α) (k n : Fin 512) (h : 512 * c.val + k.val < 2048) :
    (Layout.block ⟨2, ![512, 512]⟩ ⟨2, ![2048, 512]⟩ 0 4 c v) (ix2 k n) = v (ix2 ⟨512 * c.val + k.val, h⟩ n) := by
  refine congrArg v (funext fun b => Fin.ext ?_)
  fin_cases b
  · show c.val * 512 + k.val = 512 * c.val + k.val
    omega
  · rfl

/-- A number whose difference with itself compares equal to zero is real. -/
theorem real_of_ones (y : EReal) (h : FloatOps.cmpf (F := Ideal) (φ := .bf16) .oeq (y - y) (Ideal.ofBits .bf16 0x0000#16) = 1#1) :
    ∃ r : ℝ, y = r := by
  refine real_of_sub_self y ?_
  rw [Ideal.ofBits_zero_bf16] at h
  by_contra hn
  simp [FloatOps.cmpf, Ideal.cmp, hn] at h

/-- Where the devices' arguments are the blocks of the reference's, the result array on a device is its block of the
    reference's result. -/
theorem final_block (x : FVec Ideal Cert.ReferenceIdeal.S8x128x512 .bf16)
    (wq : FVec Ideal Cert.ReferenceIdeal.S512x2048 .bf16) (wo : FVec Ideal Cert.ReferenceIdeal.S2048x512 .bf16)
    (wk wv : FVec Ideal Cert.ReferenceIdeal.S512x2048 .bf16)
    (h0 : ∀ c : Dev nD, m ((c.tc : Thread nD τ).loc main_arg0) = Layout.block ⟨3, ![2, 128, 512]⟩ ⟨3, ![8, 128, 512]⟩ 0 4 c x)
    (h1 : ∀ c : Dev nD, m ((c.tc : Thread nD τ).loc main_arg1) = Layout.block ⟨2, ![512, 512]⟩ ⟨2, ![512, 2048]⟩ 1 4 c wq)
    (h2 : ∀ c : Dev nD, m ((c.tc : Thread nD τ).loc main_arg2) = Layout.block ⟨2, ![512, 512]⟩ ⟨2, ![2048, 512]⟩ 0 4 c wo)
    (h3 : ∀ c : Dev nD, m ((c.tc : Thread nD τ).loc main_arg3) = Layout.block ⟨2, ![512, 512]⟩ ⟨2, ![512, 2048]⟩ 1 4 c wk)
    (h4 : ∀ c : Dev nD, m ((c.tc : Thread nD τ).loc main_arg4) = Layout.block ⟨2, ![512, 512]⟩ ⟨2, ![512, 2048]⟩ 1 4 c wv)
    (hF : FiniteIns (ins m)) :
    finalA m c (5 : Fin 6) = Layout.block ⟨3, ![2, 128, 512]⟩ ⟨3, ![8, 128, 512]⟩ 0 4 c (refT x wq wo wk wv) := by
  have hB : Blocks (ins m) x wq wo wk wv := by
    refine ⟨fun c j a t h => ?_, fun c t n h => ?_, fun c k n h => ?_, fun c t n h => ?_, fun c t n h => ?_⟩
    · rw [ins_x, h0]
      exact block_batch c x j a t h
    · rw [ins_wq, h1]
      exact block_cols c wq t n h
    · rw [ins_wo, h2]
      exact block_rows c wo k n h
    · rw [ins_wk, h3]
      exact block_cols c wk t n h
    · rw [ins_wv, h4]
      exact block_cols c wv t n h
  rw [final_whole]
  funext y
  idx_vars y
  have hc : c.val < 4 := c.isLt
  have hb : 2 * c.val + y0.val < 8 := by omega
  exact (outOf_eq (ins m) x wq wo wk wv hB hF c y0 y1 y2 hb).trans (block_batch c (refT x wq wo wk wv) y0 y1 y2 hb).symm

end Cert.Proof
-- ==== Proof.lean ====
/-
  The certificate's theorem, put together: the kernel's run (`Proof/Launch.lean`), the reference's run, and the equation of
  their results.
-/
module

public import proofs.«01_k».proof.Defs
public import proofs.«01_k».proof.Proof.Value
public import proofs.«01_k».proof.Proof.Gen.Kernel
public import proofs.«01_k».proof.Proof.Gen.KernelIdeal
public import proofs.«01_k».proof.Proof.Gen.KernelIdeal.Launch
public import proofs.«01_k».proof.Proof.Gen.KernelIdeal.Points
public import proofs.«01_k».proof.Proof.Gen.KernelIdeal.Skeleton
public import proofs.«01_k».proof.Proof.Gen.Pre_finite_scores_KernelIdeal
public import proofs.«01_k».proof.Proof.Gen.Pre_finite_scores_ReferenceIdeal
public import proofs.«01_k».proof.Proof.Gen.ReferenceIdeal
public import proofs.«01_k».proof.Proof.Gen.ReferenceIdeal.Run

@[expose] public section

noncomputable section

namespace Cert.Proof

open Idealize.ShloMosaic Idealize.SL.Sem

variable {F : FTy → Type} [FloatOps F]

/-- The kernel's run, over any float values: the operands stay as they are, every semaphore ends at zero. -/
theorem frame_run (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0) :=
  (θ_run Cert.KernelIdeal.defs _ _).mono (fun _ h => ⟨fun c => ⟨(h.1 c (0 : Fin 6)).trans (final_x m c), (h.1 c (1 : Fin 6)).trans (final_wq m c),
    (h.1 c (2 : Fin 6)).trans (final_wo m c), (h.1 c (3 : Fin 6)).trans (final_wk m c), (h.1 c (4 : Fin 6)).trans (final_wv m c)⟩, h.2⟩)
    (run_main m ρ)

/-- The two printed kernels have the same bodies. -/
theorem defs_eq : Cert.Kernel.defs (F := F) = Cert.KernelIdeal.defs (F := F) := by chain_rfl

/-- `Cert.quiescent_Kernel`: the run, over the machine's own floats. -/
theorem frame_kernel : Cert.quiescent_Kernel := fun m ρ _ => by
  have h := frame_run (F := Bits) m ρ
  rw [← defs_eq] at h
  exact h

/-- `Cert.quiescent_KernelIdeal`: the run, over extended reals. -/
theorem frame_kernelIdeal : Cert.quiescent_KernelIdeal := fun m ρ _ => frame_run (F := Ideal) m ρ

/-- `Cert.quiescent_ReferenceIdeal`: the reference's run, which has no semaphores. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Where `finite_scores` of each device's arguments is all ones, the activations and the weights of the scores are real. -/
theorem finite_of_pre (m : (ℓ : Loc Cert.KernelIdeal.nD Cert.KernelIdeal.τ Cert.KernelIdeal.sig) → Buf (Elt Ideal) ℓ)
    (hp : Cert.Pre_KernelIdeal_finite_scores_KernelIdeal m) : FiniteIns (ins m) := by
  refine ⟨fun c j a t => ?_, fun c t n => ?_, fun c t n => ?_⟩
  · rw [ins_x]
    exact real_of_ones _ (congrFun (hp c).1 (ix3 j a t))
  · rw [ins_wq]
    exact real_of_ones _ (congrFun (hp c).2.1 (ix2 t n))
  · rw [ins_wk]
    exact real_of_ones _ (congrFun (hp c).2.2 (ix2 t n))

/-- `Cert.algebraic_KernelIdeal_ReferenceIdeal_pre_finite_scores_KernelIdeal`: over extended reals, where the activations
    and the weights of the scores are finite, each device ends with its two batch elements of the reference's result. -/
theorem algebraic : Cert.algebraic_KernelIdeal_ReferenceIdeal_pre_finite_scores_KernelIdeal := by
  intro m ρ m' ρ' hp hagree
  refine ⟨Cert.ReferenceIdeal.Value.res_main_v27 (F := Ideal) m' 0, ?_, ?_⟩
  · refine (θ_run Cert.KernelIdeal.defs _ _).mono (fun _ h c => ⟨(h.1 c (5 : Fin 6)).trans ?_,
      (h.1 c (0 : Fin 6)).trans (final_x m c), (h.1 c (1 : Fin 6)).trans (final_wq m c), (h.1 c (2 : Fin 6)).trans (final_wo m c),
      (h.1 c (3 : Fin 6)).trans (final_wk m c), (h.1 c (4 : Fin 6)).trans (final_wv m c)⟩) (run_main (F := Ideal) m ρ)
    rw [res_eq]
    exact final_block m c _ _ _ _ _ (fun c => (hagree c).1) (fun c => (hagree c).2.1) (fun c => (hagree c).2.2.1)
      (fun c => (hagree c).2.2.2.1) (fun c => (hagree c).2.2.2.2) (finite_of_pre m hp)
  · exact (θ_run Cert.ReferenceIdeal.defs _ _).mono (fun _ h => h 0) (Cert.ReferenceIdeal.Value.run (F := Ideal) m' ρ')

/-- Every claim of the certificate. -/
theorem claim : Cert.Claim :=
  ⟨Cert.Kernel.Gen.facts, Cert.KernelIdeal.Gen.facts, Cert.ReferenceIdeal.Gen.facts,
    Cert.Pre_finite_scores_KernelIdeal.Gen.facts, Cert.Pre_finite_scores_ReferenceIdeal.Gen.facts,
    frame_kernel, frame_kernelIdeal, fun m ρ _ => frame_kernelIdeal m ρ trivial, frame_reference,
    fun m ρ _ => frame_reference m ρ trivial, trivial, algebraic⟩

end Cert.Proof

end
